-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1048576 : Shape := ⟨1, ![1048576]⟩
abbrev S1048576x64 : Shape := ⟨2, ![1048576, 64]⟩
abbrev S2x64 : Shape := ⟨2, ![2, 64]⟩
abbrev S_ : Shape := ⟨0, ![]⟩
abbrev S1x64 : Shape := ⟨2, ![1, 64]⟩
abbrev S64 : Shape := ⟨1, ![64]⟩

class Facts : Prop where
  bcast_S_S1048576 : S_.BroadcastsInDim S1048576 (![] : Fin 0 → Fin S1048576.rank)
  reducesTo_S1048576_S_d0 : S1048576.ReducesTo [0] S_
  h_S_ : 0 < S_.numel
  slices_S2x64_S1x64_0_0 : S2x64.Slices ![0, 0] S1x64
  shapeCasts_S1x64_S64 : S1x64.ShapeCasts S64
  bcast_S_S64 : S_.BroadcastsInDim S64 (![] : Fin 0 → Fin S64.rank)
  reducesTo_S64_S_d0 : S64.ReducesTo [0] S_
  slices_S2x64_S1x64_1_0 : S2x64.Slices ![1, 0] S1x64

variable [Facts]

def fn_part1 {F : FTy → Type} [FloatOps F] (main_v12 : IVec S_ 1) (main_v17 : IVec S64 1) (main_c_3 : IVec S_ 1) : IVec S_ 1 :=
  let main_v18 : IVec S_ 1 := (fun x v => Host.reduce IntOp.andi x v reducesTo_S64_S_d0 h_S_) main_v17 main_c_3
  let main_v19 : IVec S_ 1 := andi main_v12 main_v18
  main_v19

def fn {F : FTy → Type} [FloatOps F] (main_arg0 : IVec S1048576 32) (main_arg1 : FVec F S1048576x64 .f32) (main_arg2 : FVec F S2x64 .f32) (main_arg3 : FVec F S2x64 .f32) : IVec S_ 1 :=
  let main_c : IVec S_ 32 := constantI S_ 32 0#32
  let main_v0 : IVec S1048576 32 := broadcastInDim S1048576 ![] bcast_S_S1048576 main_c
  let main_v1 : IVec S1048576 1 := cmpi .sge main_arg0 main_v0
  let main_c_0 : IVec S_ 32 := constantI S_ 32 2#32
  let main_v2 : IVec S1048576 32 := broadcastInDim S1048576 ![] bcast_S_S1048576 main_c_0
  let main_v3 : IVec S1048576 1 := cmpi .slt main_arg0 main_v2
  let main_v4 : IVec S1048576 1 := andi main_v1 main_v3
  let main_c_1 : IVec S_ 1 := constantI S_ 1 1#1
  let main_v5 : IVec S_ 1 := (fun x v => Host.reduce IntOp.andi x v reducesTo_S1048576_S_d0 h_S_) main_v4 main_c_1
  let main_v6 : FVec F S1x64 .f32 := (extractStridedSlice S1x64 ![0, 0] · slices_S2x64_S1x64_0_0) main_arg2
  let main_v7 : FVec F S64 .f32 := shapeCast S64 main_v6 shapeCasts_S1x64_S64
  let main_v8 : FVec F S64 .f32 := Host.absf main_v7
  let main_cst : FVec F S_ .f32 := constant S_ .f32 0x7F800000#32
  let main_v9 : FVec F S64 .f32 := broadcastInDim S64 ![] bcast_S_S64 main_cst
  let main_v10 : IVec S64 1 := cmpf .olt main_v8 main_v9
  let main_c_2 : IVec S_ 1 := constantI S_ 1 1#1
  let main_v11 : IVec S_ 1 := (fun x v => Host.reduce IntOp.andi x v reducesTo_S64_S_d0 h_S_) main_v10 main_c_2
  let main_v12 : IVec S_ 1 := andi main_v5 main_v11
  let main_v13 : FVec F S1x64 .f32 := (extractStridedSlice S1x64 ![0, 0] · slices_S2x64_S1x64_0_0) main_arg3
  let main_v14 : FVec F S64 .f32 := shapeCast S64 main_v13 shapeCasts_S1x64_S64
  let main_v15 : FVec F S1x64 .f32 := (extractStridedSlice S1x64 ![1, 0] · slices_S2x64_S1x64_1_0) main_arg3
  let main_v16 : FVec F S64 .f32 := shapeCast S64 main_v15 shapeCasts_S1x64_S64
  let main_v17 : IVec S64 1 := cmpf .oeq main_v14 main_v16
  let main_c_3 : IVec S_ 1 := constantI S_ 1 1#1
  fn_part1 (F := F) main_v12 main_v17 main_c_3
-- ==== Kernel.lean ====
abbrev S1048576 : Shape := ⟨1, ![1048576]⟩
abbrev S1048576x64 : Shape := ⟨2, ![1048576, 64]⟩
abbrev S2x64 : Shape := ⟨2, ![2, 64]⟩
abbrev S8192x128x8x8 : Shape := ⟨4, ![8192, 128, 8, 8]⟩
abbrev S8x8192x8x128 : Shape := ⟨4, ![8, 8192, 8, 128]⟩
abbrev S8x16 : Shape := ⟨2, ![8, 16]⟩
abbrev S2048 : Shape := ⟨1, ![2048]⟩
abbrev S16x8x128 : Shape := ⟨3, ![16, 8, 128]⟩
abbrev S_ : Shape := ⟨0, ![]⟩
abbrev S1x16 : Shape := ⟨2, ![1, 16]⟩
abbrev S16 : Shape := ⟨1, ![16]⟩
abbrev S1 : Shape := ⟨1, ![1]⟩
abbrev S1x16x8x128 : Shape := ⟨4, ![1, 16, 8, 128]⟩
abbrev S1x1x16 : Shape := ⟨3, ![1, 1, 16]⟩

abbrev nBuf : Table → Nat
  | .hbm => 9
  | .local .scVector .vmem => 15
  | _ => 0

abbrev bufTy : (tb : Table) → Fin (nBuf tb) → BufTy
  | .hbm, ⟨0, _⟩ => ⟨S1048576, .i32⟩
  | .hbm, ⟨1, _⟩ => ⟨S1048576x64, .f32⟩
  | .hbm, ⟨2, _⟩ => ⟨S2x64, .f32⟩
  | .hbm, ⟨3, _⟩ => ⟨S2x64, .f32⟩
  | .hbm, ⟨4, _⟩ => ⟨S8192x128x8x8, .f32⟩
  | .hbm, ⟨5, _⟩ => ⟨S8x8192x8x128, .f32⟩
  | .hbm, ⟨6, _⟩ => ⟨S8x8192x8x128, .f32⟩
  | .hbm, ⟨7, _⟩ => ⟨S8192x128x8x8, .f32⟩
  | .hbm, ⟨8, _⟩ => ⟨S1048576x64, .f32⟩
  | .local .scVector .vmem, ⟨0, _⟩ => ⟨S2x64, .f32⟩
  | .local .scVector .vmem, ⟨1, _⟩ => ⟨S2x64, .f32⟩
  | .local .scVector .vmem, ⟨2, _⟩ => ⟨S8x16, .f32⟩
  | .local .scVector .vmem, ⟨3, _⟩ => ⟨S8x16, .f32⟩
  | .local .scVector .vmem, ⟨4, _⟩ => ⟨S8x16, .f32⟩
  | .local .scVector .vmem, ⟨5, _⟩ => ⟨S2048, .i32⟩
  | .local .scVector .vmem, ⟨6, _⟩ => ⟨S2048, .i32⟩
  | .local .scVector .vmem, ⟨7, _⟩ => ⟨S2048, .i32⟩
  | .local .scVector .vmem, ⟨8, _⟩ => ⟨S2048, .i32⟩
  | .local .scVector .vmem, ⟨9, _⟩ => ⟨S16x8x128, .f32⟩
  | .local .scVector .vmem, ⟨10, _⟩ => ⟨S16x8x128, .f32⟩
  | .local .scVector .vmem, ⟨11, _⟩ => ⟨S16x8x128, .f32⟩
  | .local .scVector .vmem, ⟨12, _⟩ => ⟨S16x8x128, .f32⟩
  | .local .scVector .vmem, ⟨13, _⟩ => ⟨S16x8x128, .f32⟩
  | .local .scVector .vmem, ⟨14, _⟩ => ⟨S16x8x128, .f32⟩
  | _, _ => ⟨S1048576, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0_scv : Ref sig .scVector := ⟨.hbm, 0, rfl⟩
abbrev main_v1_scv : Ref sig .scVector := ⟨.hbm, 5, rfl⟩
abbrev main_arg2_scv : Ref sig .scVector := ⟨.hbm, 2, rfl⟩
abbrev main_arg3_scv : Ref sig .scVector := ⟨.hbm, 3, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_24 : BitVec 32 := 0#32
  let v59 : Index := Scalar.indexCast c0_i32_24
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v31 : BitVec 1 := Scalar.cmpi .sgt v18 c0_i32_11
  let v32 : BitVec 32 := Scalar.extui v31
  let c0_i32_12 : BitVec 32 := 0#32
  let v33 : BitVec 1 := Scalar.cmpi .slt v18 c0_i32_12
  let v34 : BitVec 32 := Scalar.extui v33
  let v35 : BitVec 32 := Scalar.subi v32 v34
  let c2_i32_10 : BitVec 32 := 2#32
  let c0_i32_13 : BitVec 32 := 0#32
  let v36 : BitVec 1 := Scalar.cmpi .sgt c2_i32_10 c0_i32_13
  let v37 : BitVec 32 := Scalar.extui v36
  let c0_i32_14 : BitVec 32 := 0#32
  let v38 : BitVec 1 := Scalar.cmpi .slt c2_i32_10 c0_i32_14
  let v39 : BitVec 32 := Scalar.extui v38
  let v40 : BitVec 32 := Scalar.subi v37 v39
  let v41 : BitVec 1 := Scalar.cmpi .ne v35 v40
  let v42 : BitVec 32 := Scalar.remsi v18 c2_i32_10
  let c0_i32_15 : BitVec 32 := 0#32
  let v43 : BitVec 1 := Scalar.cmpi .ne v42 c0_i32_15
  let v44 : BitVec 1 := Scalar.andi v41 v43
  let v30 : BitVec 32 := Scalar.divsi v18 c2_i32_10
  let c1_i32_16 : BitVec 32 := 1#32
  let v45 : BitVec 32 := Scalar.subi v30 c1_i32_16
  let v46 : BitVec 32 := Scalar.select v44 v45 v30
  let v47 : BitVec 32 := Scalar.muli c16_i32 v46
  let v60 : Index := Scalar.indexCast v47
  ![0, v60.toNat]
def k0_off2 (i : grid0.Coords) : Fin 2 → Nat :=
  let c1_i32_25 : BitVec 32 := 1#32
  let v63 : Index := Scalar.indexCast c1_i32_25
  let c16_i32 : BitVec 32 := 16#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_11 : BitVec 32 := 0#32
  let v31 : BitVec 1 := Scalar.cmpi .sgt v18 c0_i32_11
  let v32 : BitVec 32 := Scalar.extui v31
  let c0_i32_12 : BitVec 32 := 0#32
  let v33 : BitVec 1 := Scalar.cmpi .slt v18 c0_i32_12
  let v34 : BitVec 32 := Scalar.extui v33
  let v35 : BitVec 32 := Scalar.subi v32 v34
  let c2_i32_10 : BitVec 32 := 2#32
  let c0_i32_13 : BitVec 32 := 0#32
  let v36 : BitVec 1 := Scalar.cmpi .sgt c2_i32_10 c0_i32_13
  let v37 : BitVec 32 := Scalar.extui v36
  let c0_i32_14 : BitVec 32 := 0#32
  let v38 : BitVec 1 := Scalar.cmpi .slt c2_i32_10 c0_i32_14
  let v39 : BitVec 32 := Scalar.extui v38
  let v40 : BitVec 32 := Scalar.subi v37 v39
  let v41 : BitVec 1 := Scalar.cmpi .ne v35 v40
  let v42 : BitVec 32 := Scalar.remsi v18 c2_i32_10
  let c0_i32_15 : BitVec 32 := 0#32
  let v43 : BitVec 1 := Scalar.cmpi .ne v42 c0_i32_15
  let v44 : BitVec 1 := Scalar.andi v41 v43
  let v30 : BitVec 32 := Scalar.divsi v18 c2_i32_10
  let c1_i32_16 : BitVec 32 := 1#32
  let v45 : BitVec 32 := Scalar.subi v30 c1_i32_16
  let v46 : BitVec 32 := Scalar.select v44 v45 v30
  let v47 : BitVec 32 := Scalar.muli c16_i32 v46
  let v64 : Index := Scalar.indexCast v47
  ![1, v64.toNat]
def k0_off3 (i : grid0.Coords) (c0_i32_70 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v315 : BitVec 32 := Scalar.addi v29 c0_i32_70
  let c128_i32 : BitVec 32 := 128#32
  let v316 : BitVec 32 := Scalar.muli v315 c128_i32
  ![v316.toNat]
def k0_off4 (i : grid0.Coords) (c0_i32_70 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v315 : BitVec 32 := Scalar.addi v29 c0_i32_70
  let c0_i32_71 : BitVec 32 := 0#32
  let c0_i32_72 : BitVec 32 := 0#32
  ![v18.toNat, v315.toNat, 0, 0]
def k0_off4_at (r : Fin 6) : BitVec 32 :=
  if r.val < 3 then
    if r.val < 1 then
      0#32
    else
      if r.val < 2 then
        16#32
      else
        32#32
  else
    if r.val < 4 then
      48#32
    else
      if r.val < 5 then
        2016#32
      else
        2032#32
@[reducible] def k0_t1_loop : Scf.Loop 32 :=
  let c0_i32_92 : BitVec 32 := 0#32
  let c32_i32_93 : BitVec 32 := 32#32
  let v347 : BitVec 32 := Scalar.addi c0_i32_92 c32_i32_93
  let c1_i32_94 : BitVec 32 := 1#32
  ⟨c0_i32_92, v347, c1_i32_94⟩
def k0_off5 (i : grid0.Coords) (k0_t1 : Fin k0_t1_loop.trips) (c0_i32_105 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_104 : BitVec 32 := 4#32
  let c0_i32_92 : BitVec 32 := 0#32
  let c1_i32_94 : BitVec 32 := 1#32
  let arg32 : BitVec 32 := Scf.iv c0_i32_92 c1_i32_94 k0_t1
  let v359 : BitVec 32 := Scalar.muli c4_i32_104 arg32
  let v360 : BitVec 32 := Scalar.addi v359 c0_i32_105
  let c16_i32_106 : BitVec 32 := 16#32
  let v361 : BitVec 32 := Scalar.muli v360 c16_i32_106
  let v362 : BitVec 32 := Scalar.addi v29 v361
  let c128_i32_107 : BitVec 32 := 128#32
  let v363 : BitVec 32 := Scalar.muli v362 c128_i32_107
  ![v363.toNat]
def k0_off6 (i : grid0.Coords) (k0_t1 : Fin k0_t1_loop.trips) (c0_i32_105 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_104 : BitVec 32 := 4#32
  let c0_i32_92 : BitVec 32 := 0#32
  let c1_i32_94 : BitVec 32 := 1#32
  let arg32 : BitVec 32 := Scf.iv c0_i32_92 c1_i32_94 k0_t1
  let v359 : BitVec 32 := Scalar.muli c4_i32_104 arg32
  let v360 : BitVec 32 := Scalar.addi v359 c0_i32_105
  let c16_i32_106 : BitVec 32 := 16#32
  let v361 : BitVec 32 := Scalar.muli v360 c16_i32_106
  let v362 : BitVec 32 := Scalar.addi v29 v361
  let c0_i32_108 : BitVec 32 := 0#32
  let c0_i32_109 : BitVec 32 := 0#32
  ![v18.toNat, v362.toNat, 0, 0]
def k0_cond1 (k0_t1 : Fin k0_t1_loop.trips) : BitVec 1 :=
  let c0_i32_92 : BitVec 32 := 0#32
  let c1_i32_94 : BitVec 32 := 1#32
  let arg32 : BitVec 32 := Scf.iv c0_i32_92 c1_i32_94 k0_t1
  let c0_i32_112 : BitVec 32 := 0#32
  let v370 : BitVec 1 := Scalar.cmpi .sgt arg32 c0_i32_112
  let v371 : BitVec 32 := Scalar.extui v370
  let c0_i32_113 : BitVec 32 := 0#32
  let v372 : BitVec 1 := Scalar.cmpi .ne v371 c0_i32_113
  v372

def k0_off7 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_104 : BitVec 32 := 4#32
  let c0_i32_92 : BitVec 32 := 0#32
  let c1_i32_94 : BitVec 32 := 1#32
  let arg32 : BitVec 32 := Scf.iv c0_i32_92 c1_i32_94 k0_t1
  let v359 : BitVec 32 := Scalar.muli c4_i32_104 arg32
  let c0_i32_105 : BitVec 32 := 0#32
  let v360 : BitVec 32 := Scalar.addi v359 c0_i32_105
  let c2_i32_392 : BitVec 32 := 2#32
  let v755 : BitVec 32 := Scalar.subi v360 c2_i32_392
  let c16_i32_393 : BitVec 32 := 16#32
  let v756 : BitVec 32 := Scalar.muli v755 c16_i32_393
  let v757 : BitVec 32 := Scalar.addi v29 v756
  let c0_i32_394 : BitVec 32 := 0#32
  let c0_i32_395 : BitVec 32 := 0#32
  ![v18.toNat, v757.toNat, 0, 0]
@[reducible] def k0_t2_loop : Scf.Loop 32 :=
  let c0_i32_163 : BitVec 32 := 0#32
  let c16_i32_164 : BitVec 32 := 16#32
  let v445 : BitVec 32 := Scalar.addi c0_i32_163 c16_i32_164
  let c1_i32_165 : BitVec 32 := 1#32
  ⟨c0_i32_163, v445, c1_i32_165⟩
def k0_off8 (k0_t2 : Fin k0_t2_loop.trips) (c0_i32_393 : BitVec 32) : Fin 1 → Nat :=
  let c0_i32_163 : BitVec 32 := 0#32
  let c1_i32_165 : BitVec 32 := 1#32
  let arg34 : BitVec 32 := Scf.iv c0_i32_163 c1_i32_165 k0_t2
  let c128_i32_392 : BitVec 32 := 128#32
  let v755 : BitVec 32 := Scalar.muli arg34 c128_i32_392
  let v756 : BitVec 32 := Scalar.addi v755 c0_i32_393
  let v757 : Index := Scalar.indexCast v756
  ![v757.toNat]
def k0_off9 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v761 : Index := Scalar.indexCast arg34
  let c0_i32_394 : BitVec 32 := 0#32
  let v762 : Index := Scalar.indexCast c0_i32_394
  let c0_395 : Index := 0#32
  ![v761.toNat, 0, 0]
def k0_off10 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v774 : Index := Scalar.indexCast arg34
  let c1_i32_398 : BitVec 32 := 1#32
  let v775 : Index := Scalar.indexCast c1_i32_398
  let c0_399 : Index := 0#32
  ![v774.toNat, 1, 0]
def k0_off11 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v787 : Index := Scalar.indexCast arg34
  let c2_i32_402 : BitVec 32 := 2#32
  let v788 : Index := Scalar.indexCast c2_i32_402
  let c0_403 : Index := 0#32
  ![v787.toNat, 2, 0]
def k0_off12 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v800 : Index := Scalar.indexCast arg34
  let c3_i32_406 : BitVec 32 := 3#32
  let v801 : Index := Scalar.indexCast c3_i32_406
  let c0_407 : Index := 0#32
  ![v800.toNat, 3, 0]
def k0_off13 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v813 : Index := Scalar.indexCast arg34
  let c4_i32_410 : BitVec 32 := 4#32
  let v814 : Index := Scalar.indexCast c4_i32_410
  let c0_411 : Index := 0#32
  ![v813.toNat, 4, 0]
def k0_off14 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v826 : Index := Scalar.indexCast arg34
  let c5_i32_414 : BitVec 32 := 5#32
  let v827 : Index := Scalar.indexCast c5_i32_414
  let c0_415 : Index := 0#32
  ![v826.toNat, 5, 0]
def k0_off15 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v839 : Index := Scalar.indexCast arg34
  let c6_i32_418 : BitVec 32 := 6#32
  let v840 : Index := Scalar.indexCast c6_i32_418
  let c0_419 : Index := 0#32
  ![v839.toNat, 6, 0]
def k0_off16 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v852 : Index := Scalar.indexCast arg34
  let c7_i32_422 : BitVec 32 := 7#32
  let v853 : Index := Scalar.indexCast c7_i32_422
  let c0_423 : Index := 0#32
  ![v852.toNat, 7, 0]
def k0_off17 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v871 : Index := Scalar.indexCast arg34
  let c0_i32_428 : BitVec 32 := 0#32
  let v872 : Index := Scalar.indexCast c0_i32_428
  let c16 : Index := 16#32
  ![v871.toNat, 0, 16]
def k0_off18 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v884 : Index := Scalar.indexCast arg34
  let c1_i32_431 : BitVec 32 := 1#32
  let v885 : Index := Scalar.indexCast c1_i32_431
  let c16_432 : Index := 16#32
  ![v884.toNat, 1, 16]
def k0_off19 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v897 : Index := Scalar.indexCast arg34
  let c2_i32_435 : BitVec 32 := 2#32
  let v898 : Index := Scalar.indexCast c2_i32_435
  let c16_436 : Index := 16#32
  ![v897.toNat, 2, 16]
def k0_off20 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v910 : Index := Scalar.indexCast arg34
  let c3_i32_439 : BitVec 32 := 3#32
  let v911 : Index := Scalar.indexCast c3_i32_439
  let c16_440 : Index := 16#32
  ![v910.toNat, 3, 16]
def k0_off21 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v923 : Index := Scalar.indexCast arg34
  let c4_i32_443 : BitVec 32 := 4#32
  let v924 : Index := Scalar.indexCast c4_i32_443
  let c16_444 : Index := 16#32
  ![v923.toNat, 4, 16]
def k0_off22 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v936 : Index := Scalar.indexCast arg34
  let c5_i32_447 : BitVec 32 := 5#32
  let v937 : Index := Scalar.indexCast c5_i32_447
  let c16_448 : Index := 16#32
  ![v936.toNat, 5, 16]
def k0_off23 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v949 : Index := Scalar.indexCast arg34
  let c6_i32_451 : BitVec 32 := 6#32
  let v950 : Index := Scalar.indexCast c6_i32_451
  let c16_452 : Index := 16#32
  ![v949.toNat, 6, 16]
def k0_off24 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v962 : Index := Scalar.indexCast arg34
  let c7_i32_455 : BitVec 32 := 7#32
  let v963 : Index := Scalar.indexCast c7_i32_455
  let c16_456 : Index := 16#32
  ![v962.toNat, 7, 16]
def k0_off25 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v981 : Index := Scalar.indexCast arg34
  let c0_i32_461 : BitVec 32 := 0#32
  let v982 : Index := Scalar.indexCast c0_i32_461
  let c32 : Index := 32#32
  ![v981.toNat, 0, 32]
def k0_off26 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v994 : Index := Scalar.indexCast arg34
  let c1_i32_464 : BitVec 32 := 1#32
  let v995 : Index := Scalar.indexCast c1_i32_464
  let c32_465 : Index := 32#32
  ![v994.toNat, 1, 32]
def k0_off27 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1007 : Index := Scalar.indexCast arg34
  let c2_i32_468 : BitVec 32 := 2#32
  let v1008 : Index := Scalar.indexCast c2_i32_468
  let c32_469 : Index := 32#32
  ![v1007.toNat, 2, 32]
def k0_off28 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1020 : Index := Scalar.indexCast arg34
  let c3_i32_472 : BitVec 32 := 3#32
  let v1021 : Index := Scalar.indexCast c3_i32_472
  let c32_473 : Index := 32#32
  ![v1020.toNat, 3, 32]
def k0_off29 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1033 : Index := Scalar.indexCast arg34
  let c4_i32_476 : BitVec 32 := 4#32
  let v1034 : Index := Scalar.indexCast c4_i32_476
  let c32_477 : Index := 32#32
  ![v1033.toNat, 4, 32]
def k0_off30 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1046 : Index := Scalar.indexCast arg34
  let c5_i32_480 : BitVec 32 := 5#32
  let v1047 : Index := Scalar.indexCast c5_i32_480
  let c32_481 : Index := 32#32
  ![v1046.toNat, 5, 32]
def k0_off31 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1059 : Index := Scalar.indexCast arg34
  let c6_i32_484 : BitVec 32 := 6#32
  let v1060 : Index := Scalar.indexCast c6_i32_484
  let c32_485 : Index := 32#32
  ![v1059.toNat, 6, 32]
def k0_off32 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1072 : Index := Scalar.indexCast arg34
  let c7_i32_488 : BitVec 32 := 7#32
  let v1073 : Index := Scalar.indexCast c7_i32_488
  let c32_489 : Index := 32#32
  ![v1072.toNat, 7, 32]
def k0_off33 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1091 : Index := Scalar.indexCast arg34
  let c0_i32_494 : BitVec 32 := 0#32
  let v1092 : Index := Scalar.indexCast c0_i32_494
  let c48 : Index := 48#32
  ![v1091.toNat, 0, 48]
def k0_off34 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1104 : Index := Scalar.indexCast arg34
  let c1_i32_497 : BitVec 32 := 1#32
  let v1105 : Index := Scalar.indexCast c1_i32_497
  let c48_498 : Index := 48#32
  ![v1104.toNat, 1, 48]
def k0_off35 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1117 : Index := Scalar.indexCast arg34
  let c2_i32_501 : BitVec 32 := 2#32
  let v1118 : Index := Scalar.indexCast c2_i32_501
  let c48_502 : Index := 48#32
  ![v1117.toNat, 2, 48]
def k0_off36 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1130 : Index := Scalar.indexCast arg34
  let c3_i32_505 : BitVec 32 := 3#32
  let v1131 : Index := Scalar.indexCast c3_i32_505
  let c48_506 : Index := 48#32
  ![v1130.toNat, 3, 48]
def k0_off37 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1143 : Index := Scalar.indexCast arg34
  let c4_i32_509 : BitVec 32 := 4#32
  let v1144 : Index := Scalar.indexCast c4_i32_509
  let c48_510 : Index := 48#32
  ![v1143.toNat, 4, 48]
def k0_off38 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1156 : Index := Scalar.indexCast arg34
  let c5_i32_513 : BitVec 32 := 5#32
  let v1157 : Index := Scalar.indexCast c5_i32_513
  let c48_514 : Index := 48#32
  ![v1156.toNat, 5, 48]
def k0_off39 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1169 : Index := Scalar.indexCast arg34
  let c6_i32_517 : BitVec 32 := 6#32
  let v1170 : Index := Scalar.indexCast c6_i32_517
  let c48_518 : Index := 48#32
  ![v1169.toNat, 6, 48]
def k0_off40 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1182 : Index := Scalar.indexCast arg34
  let c7_i32_521 : BitVec 32 := 7#32
  let v1183 : Index := Scalar.indexCast c7_i32_521
  let c48_522 : Index := 48#32
  ![v1182.toNat, 7, 48]
def k0_off41 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1201 : Index := Scalar.indexCast arg34
  let c0_i32_526 : BitVec 32 := 0#32
  let v1202 : Index := Scalar.indexCast c0_i32_526
  let c64 : Index := 64#32
  ![v1201.toNat, 0, 64]
def k0_off42 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1214 : Index := Scalar.indexCast arg34
  let c1_i32_529 : BitVec 32 := 1#32
  let v1215 : Index := Scalar.indexCast c1_i32_529
  let c64_530 : Index := 64#32
  ![v1214.toNat, 1, 64]
def k0_off43 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1227 : Index := Scalar.indexCast arg34
  let c2_i32_533 : BitVec 32 := 2#32
  let v1228 : Index := Scalar.indexCast c2_i32_533
  let c64_534 : Index := 64#32
  ![v1227.toNat, 2, 64]
def k0_off44 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1240 : Index := Scalar.indexCast arg34
  let c3_i32_537 : BitVec 32 := 3#32
  let v1241 : Index := Scalar.indexCast c3_i32_537
  let c64_538 : Index := 64#32
  ![v1240.toNat, 3, 64]
def k0_off45 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1253 : Index := Scalar.indexCast arg34
  let c4_i32_541 : BitVec 32 := 4#32
  let v1254 : Index := Scalar.indexCast c4_i32_541
  let c64_542 : Index := 64#32
  ![v1253.toNat, 4, 64]
def k0_off46 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1266 : Index := Scalar.indexCast arg34
  let c5_i32_545 : BitVec 32 := 5#32
  let v1267 : Index := Scalar.indexCast c5_i32_545
  let c64_546 : Index := 64#32
  ![v1266.toNat, 5, 64]
def k0_off47 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1279 : Index := Scalar.indexCast arg34
  let c6_i32_549 : BitVec 32 := 6#32
  let v1280 : Index := Scalar.indexCast c6_i32_549
  let c64_550 : Index := 64#32
  ![v1279.toNat, 6, 64]
def k0_off48 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1292 : Index := Scalar.indexCast arg34
  let c7_i32_553 : BitVec 32 := 7#32
  let v1293 : Index := Scalar.indexCast c7_i32_553
  let c64_554 : Index := 64#32
  ![v1292.toNat, 7, 64]
def k0_off49 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1311 : Index := Scalar.indexCast arg34
  let c0_i32_558 : BitVec 32 := 0#32
  let v1312 : Index := Scalar.indexCast c0_i32_558
  let c80 : Index := 80#32
  ![v1311.toNat, 0, 80]
def k0_off50 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1324 : Index := Scalar.indexCast arg34
  let c1_i32_561 : BitVec 32 := 1#32
  let v1325 : Index := Scalar.indexCast c1_i32_561
  let c80_562 : Index := 80#32
  ![v1324.toNat, 1, 80]
def k0_off51 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1337 : Index := Scalar.indexCast arg34
  let c2_i32_565 : BitVec 32 := 2#32
  let v1338 : Index := Scalar.indexCast c2_i32_565
  let c80_566 : Index := 80#32
  ![v1337.toNat, 2, 80]
def k0_off52 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1350 : Index := Scalar.indexCast arg34
  let c3_i32_569 : BitVec 32 := 3#32
  let v1351 : Index := Scalar.indexCast c3_i32_569
  let c80_570 : Index := 80#32
  ![v1350.toNat, 3, 80]
def k0_off53 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1363 : Index := Scalar.indexCast arg34
  let c4_i32_573 : BitVec 32 := 4#32
  let v1364 : Index := Scalar.indexCast c4_i32_573
  let c80_574 : Index := 80#32
  ![v1363.toNat, 4, 80]
def k0_off54 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1376 : Index := Scalar.indexCast arg34
  let c5_i32_577 : BitVec 32 := 5#32
  let v1377 : Index := Scalar.indexCast c5_i32_577
  let c80_578 : Index := 80#32
  ![v1376.toNat, 5, 80]
def k0_off55 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1389 : Index := Scalar.indexCast arg34
  let c6_i32_581 : BitVec 32 := 6#32
  let v1390 : Index := Scalar.indexCast c6_i32_581
  let c80_582 : Index := 80#32
  ![v1389.toNat, 6, 80]
def k0_off56 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1402 : Index := Scalar.indexCast arg34
  let c7_i32_585 : BitVec 32 := 7#32
  let v1403 : Index := Scalar.indexCast c7_i32_585
  let c80_586 : Index := 80#32
  ![v1402.toNat, 7, 80]
def k0_off57 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1421 : Index := Scalar.indexCast arg34
  let c0_i32_590 : BitVec 32 := 0#32
  let v1422 : Index := Scalar.indexCast c0_i32_590
  let c96 : Index := 96#32
  ![v1421.toNat, 0, 96]
def k0_off58 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1434 : Index := Scalar.indexCast arg34
  let c1_i32_593 : BitVec 32 := 1#32
  let v1435 : Index := Scalar.indexCast c1_i32_593
  let c96_594 : Index := 96#32
  ![v1434.toNat, 1, 96]
def k0_off59 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1447 : Index := Scalar.indexCast arg34
  let c2_i32_597 : BitVec 32 := 2#32
  let v1448 : Index := Scalar.indexCast c2_i32_597
  let c96_598 : Index := 96#32
  ![v1447.toNat, 2, 96]
def k0_off60 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1460 : Index := Scalar.indexCast arg34
  let c3_i32_601 : BitVec 32 := 3#32
  let v1461 : Index := Scalar.indexCast c3_i32_601
  let c96_602 : Index := 96#32
  ![v1460.toNat, 3, 96]
def k0_off61 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1473 : Index := Scalar.indexCast arg34
  let c4_i32_605 : BitVec 32 := 4#32
  let v1474 : Index := Scalar.indexCast c4_i32_605
  let c96_606 : Index := 96#32
  ![v1473.toNat, 4, 96]
def k0_off62 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1486 : Index := Scalar.indexCast arg34
  let c5_i32_609 : BitVec 32 := 5#32
  let v1487 : Index := Scalar.indexCast c5_i32_609
  let c96_610 : Index := 96#32
  ![v1486.toNat, 5, 96]
def k0_off63 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1499 : Index := Scalar.indexCast arg34
  let c6_i32_613 : BitVec 32 := 6#32
  let v1500 : Index := Scalar.indexCast c6_i32_613
  let c96_614 : Index := 96#32
  ![v1499.toNat, 6, 96]
def k0_off64 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1512 : Index := Scalar.indexCast arg34
  let c7_i32_617 : BitVec 32 := 7#32
  let v1513 : Index := Scalar.indexCast c7_i32_617
  let c96_618 : Index := 96#32
  ![v1512.toNat, 7, 96]
def k0_off65 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1531 : Index := Scalar.indexCast arg34
  let c0_i32_622 : BitVec 32 := 0#32
  let v1532 : Index := Scalar.indexCast c0_i32_622
  let c112 : Index := 112#32
  ![v1531.toNat, 0, 112]
def k0_off66 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1544 : Index := Scalar.indexCast arg34
  let c1_i32_625 : BitVec 32 := 1#32
  let v1545 : Index := Scalar.indexCast c1_i32_625
  let c112_626 : Index := 112#32
  ![v1544.toNat, 1, 112]
def k0_off67 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1557 : Index := Scalar.indexCast arg34
  let c2_i32_629 : BitVec 32 := 2#32
  let v1558 : Index := Scalar.indexCast c2_i32_629
  let c112_630 : Index := 112#32
  ![v1557.toNat, 2, 112]
def k0_off68 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1570 : Index := Scalar.indexCast arg34
  let c3_i32_633 : BitVec 32 := 3#32
  let v1571 : Index := Scalar.indexCast c3_i32_633
  let c112_634 : Index := 112#32
  ![v1570.toNat, 3, 112]
def k0_off69 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1583 : Index := Scalar.indexCast arg34
  let c4_i32_637 : BitVec 32 := 4#32
  let v1584 : Index := Scalar.indexCast c4_i32_637
  let c112_638 : Index := 112#32
  ![v1583.toNat, 4, 112]
def k0_off70 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1596 : Index := Scalar.indexCast arg34
  let c5_i32_641 : BitVec 32 := 5#32
  let v1597 : Index := Scalar.indexCast c5_i32_641
  let c112_642 : Index := 112#32
  ![v1596.toNat, 5, 112]
def k0_off71 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1609 : Index := Scalar.indexCast arg34
  let c6_i32_645 : BitVec 32 := 6#32
  let v1610 : Index := Scalar.indexCast c6_i32_645
  let c112_646 : Index := 112#32
  ![v1609.toNat, 6, 112]
def k0_off72 (k0_t2 : Fin k0_t2_loop.trips) : Fin 3 → Nat :=
  let c0_i32_163 : BitVec 32 := 0#32
  let c1_i32_165 : BitVec 32 := 1#32
  let arg34 : BitVec 32 := Scf.iv c0_i32_163 c1_i32_165 k0_t2
  let v1622 : Index := Scalar.indexCast arg34
  let c7_i32_649 : BitVec 32 := 7#32
  let v1623 : Index := Scalar.indexCast c7_i32_649
  let c112_650 : Index := 112#32
  ![v1622.toNat, 7, 112]
def k0_cond2 (k0_t1 : Fin k0_t1_loop.trips) : BitVec 1 :=
  let c0_i32_92 : BitVec 32 := 0#32
  let c1_i32_94 : BitVec 32 := 1#32
  let arg32 : BitVec 32 := Scf.iv c0_i32_92 c1_i32_94 k0_t1
  let c31_i32 : BitVec 32 := 31#32
  let v453 : BitVec 1 := Scalar.cmpi .slt arg32 c31_i32
  let v454 : BitVec 32 := Scalar.extui v453
  let c0_i32_172 : BitVec 32 := 0#32
  let v455 : BitVec 1 := Scalar.cmpi .ne v454 c0_i32_172
  v455

def k0_off73 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_104 : BitVec 32 := 4#32
  let c0_i32_92 : BitVec 32 := 0#32
  let c1_i32_94 : BitVec 32 := 1#32
  let arg32 : BitVec 32 := Scf.iv c0_i32_92 c1_i32_94 k0_t1
  let v359 : BitVec 32 := Scalar.muli c4_i32_104 arg32
  let c0_i32_105 : BitVec 32 := 0#32
  let v360 : BitVec 32 := Scalar.addi v359 c0_i32_105
  let c4_i32_392 : BitVec 32 := 4#32
  let v755 : BitVec 32 := Scalar.addi v360 c4_i32_392
  let c16_i32_393 : BitVec 32 := 16#32
  let v756 : BitVec 32 := Scalar.muli v755 c16_i32_393
  let v757 : BitVec 32 := Scalar.addi v29 v756
  let c128_i32_394 : BitVec 32 := 128#32
  let v758 : BitVec 32 := Scalar.muli v757 c128_i32_394
  ![v758.toNat]
def k0_off74 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_104 : BitVec 32 := 4#32
  let c0_i32_92 : BitVec 32 := 0#32
  let c1_i32_94 : BitVec 32 := 1#32
  let arg32 : BitVec 32 := Scf.iv c0_i32_92 c1_i32_94 k0_t1
  let v359 : BitVec 32 := Scalar.muli c4_i32_104 arg32
  let c0_i32_105 : BitVec 32 := 0#32
  let v360 : BitVec 32 := Scalar.addi v359 c0_i32_105
  let c4_i32_392 : BitVec 32 := 4#32
  let v755 : BitVec 32 := Scalar.addi v360 c4_i32_392
  let c16_i32_393 : BitVec 32 := 16#32
  let v756 : BitVec 32 := Scalar.muli v755 c16_i32_393
  let v757 : BitVec 32 := Scalar.addi v29 v756
  let c0_i32_395 : BitVec 32 := 0#32
  let c0_i32_396 : BitVec 32 := 0#32
  ![v18.toNat, v757.toNat, 0, 0]
def k0_cond3 (k0_t1 : Fin k0_t1_loop.trips) : BitVec 1 :=
  let c0_i32_92 : BitVec 32 := 0#32
  let c1_i32_94 : BitVec 32 := 1#32
  let arg32 : BitVec 32 := Scf.iv c0_i32_92 c1_i32_94 k0_t1
  let c0_i32_181 : BitVec 32 := 0#32
  let v467 : BitVec 1 := Scalar.cmpi .sgt arg32 c0_i32_181
  let v468 : BitVec 32 := Scalar.extui v467
  let c0_i32_182 : BitVec 32 := 0#32
  let v469 : BitVec 1 := Scalar.cmpi .ne v468 c0_i32_182
  v469

def k0_off75 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_173 : BitVec 32 := 4#32
  let c0_i32_92 : BitVec 32 := 0#32
  let c1_i32_94 : BitVec 32 := 1#32
  let arg32 : BitVec 32 := Scf.iv c0_i32_92 c1_i32_94 k0_t1
  let v456 : BitVec 32 := Scalar.muli c4_i32_173 arg32
  let c1_i32_174 : BitVec 32 := 1#32
  let v457 : BitVec 32 := Scalar.addi v456 c1_i32_174
  let c2_i32_392 : BitVec 32 := 2#32
  let v755 : BitVec 32 := Scalar.subi v457 c2_i32_392
  let c16_i32_393 : BitVec 32 := 16#32
  let v756 : BitVec 32 := Scalar.muli v755 c16_i32_393
  let v757 : BitVec 32 := Scalar.addi v29 v756
  let c0_i32_394 : BitVec 32 := 0#32
  let c0_i32_395 : BitVec 32 := 0#32
  ![v18.toNat, v757.toNat, 0, 0]
@[reducible] def k0_t3_loop : Scf.Loop 32 :=
  let c0_i32_232 : BitVec 32 := 0#32
  let c16_i32_233 : BitVec 32 := 16#32
  let v542 : BitVec 32 := Scalar.addi c0_i32_232 c16_i32_233
  let c1_i32_234 : BitVec 32 := 1#32
  ⟨c0_i32_232, v542, c1_i32_234⟩
def k0_off76 (k0_t3 : Fin k0_t3_loop.trips) (c0_i32_393 : BitVec 32) : Fin 1 → Nat :=
  let c0_i32_232 : BitVec 32 := 0#32
  let c1_i32_234 : BitVec 32 := 1#32
  let arg34 : BitVec 32 := Scf.iv c0_i32_232 c1_i32_234 k0_t3
  let c128_i32_392 : BitVec 32 := 128#32
  let v755 : BitVec 32 := Scalar.muli arg34 c128_i32_392
  let v756 : BitVec 32 := Scalar.addi v755 c0_i32_393
  let v757 : Index := Scalar.indexCast v756
  ![v757.toNat]
def k0_off77 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v761 : Index := Scalar.indexCast arg34
  let c0_i32_394 : BitVec 32 := 0#32
  let v762 : Index := Scalar.indexCast c0_i32_394
  let c0_395 : Index := 0#32
  ![v761.toNat, 0, 0]
def k0_off78 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v774 : Index := Scalar.indexCast arg34
  let c1_i32_398 : BitVec 32 := 1#32
  let v775 : Index := Scalar.indexCast c1_i32_398
  let c0_399 : Index := 0#32
  ![v774.toNat, 1, 0]
def k0_off79 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v787 : Index := Scalar.indexCast arg34
  let c2_i32_402 : BitVec 32 := 2#32
  let v788 : Index := Scalar.indexCast c2_i32_402
  let c0_403 : Index := 0#32
  ![v787.toNat, 2, 0]
def k0_off80 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v800 : Index := Scalar.indexCast arg34
  let c3_i32_406 : BitVec 32 := 3#32
  let v801 : Index := Scalar.indexCast c3_i32_406
  let c0_407 : Index := 0#32
  ![v800.toNat, 3, 0]
def k0_off81 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v813 : Index := Scalar.indexCast arg34
  let c4_i32_410 : BitVec 32 := 4#32
  let v814 : Index := Scalar.indexCast c4_i32_410
  let c0_411 : Index := 0#32
  ![v813.toNat, 4, 0]
def k0_off82 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v826 : Index := Scalar.indexCast arg34
  let c5_i32_414 : BitVec 32 := 5#32
  let v827 : Index := Scalar.indexCast c5_i32_414
  let c0_415 : Index := 0#32
  ![v826.toNat, 5, 0]
def k0_off83 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v839 : Index := Scalar.indexCast arg34
  let c6_i32_418 : BitVec 32 := 6#32
  let v840 : Index := Scalar.indexCast c6_i32_418
  let c0_419 : Index := 0#32
  ![v839.toNat, 6, 0]
def k0_off84 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v852 : Index := Scalar.indexCast arg34
  let c7_i32_422 : BitVec 32 := 7#32
  let v853 : Index := Scalar.indexCast c7_i32_422
  let c0_423 : Index := 0#32
  ![v852.toNat, 7, 0]
def k0_off85 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v871 : Index := Scalar.indexCast arg34
  let c0_i32_428 : BitVec 32 := 0#32
  let v872 : Index := Scalar.indexCast c0_i32_428
  let c16 : Index := 16#32
  ![v871.toNat, 0, 16]
def k0_off86 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v884 : Index := Scalar.indexCast arg34
  let c1_i32_431 : BitVec 32 := 1#32
  let v885 : Index := Scalar.indexCast c1_i32_431
  let c16_432 : Index := 16#32
  ![v884.toNat, 1, 16]
def k0_off87 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v897 : Index := Scalar.indexCast arg34
  let c2_i32_435 : BitVec 32 := 2#32
  let v898 : Index := Scalar.indexCast c2_i32_435
  let c16_436 : Index := 16#32
  ![v897.toNat, 2, 16]
def k0_off88 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v910 : Index := Scalar.indexCast arg34
  let c3_i32_439 : BitVec 32 := 3#32
  let v911 : Index := Scalar.indexCast c3_i32_439
  let c16_440 : Index := 16#32
  ![v910.toNat, 3, 16]
def k0_off89 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v923 : Index := Scalar.indexCast arg34
  let c4_i32_443 : BitVec 32 := 4#32
  let v924 : Index := Scalar.indexCast c4_i32_443
  let c16_444 : Index := 16#32
  ![v923.toNat, 4, 16]
def k0_off90 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v936 : Index := Scalar.indexCast arg34
  let c5_i32_447 : BitVec 32 := 5#32
  let v937 : Index := Scalar.indexCast c5_i32_447
  let c16_448 : Index := 16#32
  ![v936.toNat, 5, 16]
def k0_off91 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v949 : Index := Scalar.indexCast arg34
  let c6_i32_451 : BitVec 32 := 6#32
  let v950 : Index := Scalar.indexCast c6_i32_451
  let c16_452 : Index := 16#32
  ![v949.toNat, 6, 16]
def k0_off92 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v962 : Index := Scalar.indexCast arg34
  let c7_i32_455 : BitVec 32 := 7#32
  let v963 : Index := Scalar.indexCast c7_i32_455
  let c16_456 : Index := 16#32
  ![v962.toNat, 7, 16]
def k0_off93 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v981 : Index := Scalar.indexCast arg34
  let c0_i32_461 : BitVec 32 := 0#32
  let v982 : Index := Scalar.indexCast c0_i32_461
  let c32 : Index := 32#32
  ![v981.toNat, 0, 32]
def k0_off94 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v994 : Index := Scalar.indexCast arg34
  let c1_i32_464 : BitVec 32 := 1#32
  let v995 : Index := Scalar.indexCast c1_i32_464
  let c32_465 : Index := 32#32
  ![v994.toNat, 1, 32]
def k0_off95 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1007 : Index := Scalar.indexCast arg34
  let c2_i32_468 : BitVec 32 := 2#32
  let v1008 : Index := Scalar.indexCast c2_i32_468
  let c32_469 : Index := 32#32
  ![v1007.toNat, 2, 32]
def k0_off96 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1020 : Index := Scalar.indexCast arg34
  let c3_i32_472 : BitVec 32 := 3#32
  let v1021 : Index := Scalar.indexCast c3_i32_472
  let c32_473 : Index := 32#32
  ![v1020.toNat, 3, 32]
def k0_off97 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1033 : Index := Scalar.indexCast arg34
  let c4_i32_476 : BitVec 32 := 4#32
  let v1034 : Index := Scalar.indexCast c4_i32_476
  let c32_477 : Index := 32#32
  ![v1033.toNat, 4, 32]
def k0_off98 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1046 : Index := Scalar.indexCast arg34
  let c5_i32_480 : BitVec 32 := 5#32
  let v1047 : Index := Scalar.indexCast c5_i32_480
  let c32_481 : Index := 32#32
  ![v1046.toNat, 5, 32]
def k0_off99 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1059 : Index := Scalar.indexCast arg34
  let c6_i32_484 : BitVec 32 := 6#32
  let v1060 : Index := Scalar.indexCast c6_i32_484
  let c32_485 : Index := 32#32
  ![v1059.toNat, 6, 32]
def k0_off100 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1072 : Index := Scalar.indexCast arg34
  let c7_i32_488 : BitVec 32 := 7#32
  let v1073 : Index := Scalar.indexCast c7_i32_488
  let c32_489 : Index := 32#32
  ![v1072.toNat, 7, 32]
def k0_off101 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1091 : Index := Scalar.indexCast arg34
  let c0_i32_494 : BitVec 32 := 0#32
  let v1092 : Index := Scalar.indexCast c0_i32_494
  let c48 : Index := 48#32
  ![v1091.toNat, 0, 48]
def k0_off102 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1104 : Index := Scalar.indexCast arg34
  let c1_i32_497 : BitVec 32 := 1#32
  let v1105 : Index := Scalar.indexCast c1_i32_497
  let c48_498 : Index := 48#32
  ![v1104.toNat, 1, 48]
def k0_off103 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1117 : Index := Scalar.indexCast arg34
  let c2_i32_501 : BitVec 32 := 2#32
  let v1118 : Index := Scalar.indexCast c2_i32_501
  let c48_502 : Index := 48#32
  ![v1117.toNat, 2, 48]
def k0_off104 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1130 : Index := Scalar.indexCast arg34
  let c3_i32_505 : BitVec 32 := 3#32
  let v1131 : Index := Scalar.indexCast c3_i32_505
  let c48_506 : Index := 48#32
  ![v1130.toNat, 3, 48]
def k0_off105 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1143 : Index := Scalar.indexCast arg34
  let c4_i32_509 : BitVec 32 := 4#32
  let v1144 : Index := Scalar.indexCast c4_i32_509
  let c48_510 : Index := 48#32
  ![v1143.toNat, 4, 48]
def k0_off106 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1156 : Index := Scalar.indexCast arg34
  let c5_i32_513 : BitVec 32 := 5#32
  let v1157 : Index := Scalar.indexCast c5_i32_513
  let c48_514 : Index := 48#32
  ![v1156.toNat, 5, 48]
def k0_off107 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1169 : Index := Scalar.indexCast arg34
  let c6_i32_517 : BitVec 32 := 6#32
  let v1170 : Index := Scalar.indexCast c6_i32_517
  let c48_518 : Index := 48#32
  ![v1169.toNat, 6, 48]
def k0_off108 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1182 : Index := Scalar.indexCast arg34
  let c7_i32_521 : BitVec 32 := 7#32
  let v1183 : Index := Scalar.indexCast c7_i32_521
  let c48_522 : Index := 48#32
  ![v1182.toNat, 7, 48]
def k0_off109 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1201 : Index := Scalar.indexCast arg34
  let c0_i32_526 : BitVec 32 := 0#32
  let v1202 : Index := Scalar.indexCast c0_i32_526
  let c64 : Index := 64#32
  ![v1201.toNat, 0, 64]
def k0_off110 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1214 : Index := Scalar.indexCast arg34
  let c1_i32_529 : BitVec 32 := 1#32
  let v1215 : Index := Scalar.indexCast c1_i32_529
  let c64_530 : Index := 64#32
  ![v1214.toNat, 1, 64]
def k0_off111 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1227 : Index := Scalar.indexCast arg34
  let c2_i32_533 : BitVec 32 := 2#32
  let v1228 : Index := Scalar.indexCast c2_i32_533
  let c64_534 : Index := 64#32
  ![v1227.toNat, 2, 64]
def k0_off112 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1240 : Index := Scalar.indexCast arg34
  let c3_i32_537 : BitVec 32 := 3#32
  let v1241 : Index := Scalar.indexCast c3_i32_537
  let c64_538 : Index := 64#32
  ![v1240.toNat, 3, 64]
def k0_off113 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1253 : Index := Scalar.indexCast arg34
  let c4_i32_541 : BitVec 32 := 4#32
  let v1254 : Index := Scalar.indexCast c4_i32_541
  let c64_542 : Index := 64#32
  ![v1253.toNat, 4, 64]
def k0_off114 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1266 : Index := Scalar.indexCast arg34
  let c5_i32_545 : BitVec 32 := 5#32
  let v1267 : Index := Scalar.indexCast c5_i32_545
  let c64_546 : Index := 64#32
  ![v1266.toNat, 5, 64]
def k0_off115 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1279 : Index := Scalar.indexCast arg34
  let c6_i32_549 : BitVec 32 := 6#32
  let v1280 : Index := Scalar.indexCast c6_i32_549
  let c64_550 : Index := 64#32
  ![v1279.toNat, 6, 64]
def k0_off116 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1292 : Index := Scalar.indexCast arg34
  let c7_i32_553 : BitVec 32 := 7#32
  let v1293 : Index := Scalar.indexCast c7_i32_553
  let c64_554 : Index := 64#32
  ![v1292.toNat, 7, 64]
def k0_off117 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1311 : Index := Scalar.indexCast arg34
  let c0_i32_558 : BitVec 32 := 0#32
  let v1312 : Index := Scalar.indexCast c0_i32_558
  let c80 : Index := 80#32
  ![v1311.toNat, 0, 80]
def k0_off118 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1324 : Index := Scalar.indexCast arg34
  let c1_i32_561 : BitVec 32 := 1#32
  let v1325 : Index := Scalar.indexCast c1_i32_561
  let c80_562 : Index := 80#32
  ![v1324.toNat, 1, 80]
def k0_off119 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1337 : Index := Scalar.indexCast arg34
  let c2_i32_565 : BitVec 32 := 2#32
  let v1338 : Index := Scalar.indexCast c2_i32_565
  let c80_566 : Index := 80#32
  ![v1337.toNat, 2, 80]
def k0_off120 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1350 : Index := Scalar.indexCast arg34
  let c3_i32_569 : BitVec 32 := 3#32
  let v1351 : Index := Scalar.indexCast c3_i32_569
  let c80_570 : Index := 80#32
  ![v1350.toNat, 3, 80]
def k0_off121 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1363 : Index := Scalar.indexCast arg34
  let c4_i32_573 : BitVec 32 := 4#32
  let v1364 : Index := Scalar.indexCast c4_i32_573
  let c80_574 : Index := 80#32
  ![v1363.toNat, 4, 80]
def k0_off122 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1376 : Index := Scalar.indexCast arg34
  let c5_i32_577 : BitVec 32 := 5#32
  let v1377 : Index := Scalar.indexCast c5_i32_577
  let c80_578 : Index := 80#32
  ![v1376.toNat, 5, 80]
def k0_off123 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1389 : Index := Scalar.indexCast arg34
  let c6_i32_581 : BitVec 32 := 6#32
  let v1390 : Index := Scalar.indexCast c6_i32_581
  let c80_582 : Index := 80#32
  ![v1389.toNat, 6, 80]
def k0_off124 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1402 : Index := Scalar.indexCast arg34
  let c7_i32_585 : BitVec 32 := 7#32
  let v1403 : Index := Scalar.indexCast c7_i32_585
  let c80_586 : Index := 80#32
  ![v1402.toNat, 7, 80]
def k0_off125 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1421 : Index := Scalar.indexCast arg34
  let c0_i32_590 : BitVec 32 := 0#32
  let v1422 : Index := Scalar.indexCast c0_i32_590
  let c96 : Index := 96#32
  ![v1421.toNat, 0, 96]
def k0_off126 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1434 : Index := Scalar.indexCast arg34
  let c1_i32_593 : BitVec 32 := 1#32
  let v1435 : Index := Scalar.indexCast c1_i32_593
  let c96_594 : Index := 96#32
  ![v1434.toNat, 1, 96]
def k0_off127 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1447 : Index := Scalar.indexCast arg34
  let c2_i32_597 : BitVec 32 := 2#32
  let v1448 : Index := Scalar.indexCast c2_i32_597
  let c96_598 : Index := 96#32
  ![v1447.toNat, 2, 96]
def k0_off128 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1460 : Index := Scalar.indexCast arg34
  let c3_i32_601 : BitVec 32 := 3#32
  let v1461 : Index := Scalar.indexCast c3_i32_601
  let c96_602 : Index := 96#32
  ![v1460.toNat, 3, 96]
def k0_off129 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1473 : Index := Scalar.indexCast arg34
  let c4_i32_605 : BitVec 32 := 4#32
  let v1474 : Index := Scalar.indexCast c4_i32_605
  let c96_606 : Index := 96#32
  ![v1473.toNat, 4, 96]
def k0_off130 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1486 : Index := Scalar.indexCast arg34
  let c5_i32_609 : BitVec 32 := 5#32
  let v1487 : Index := Scalar.indexCast c5_i32_609
  let c96_610 : Index := 96#32
  ![v1486.toNat, 5, 96]
def k0_off131 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1499 : Index := Scalar.indexCast arg34
  let c6_i32_613 : BitVec 32 := 6#32
  let v1500 : Index := Scalar.indexCast c6_i32_613
  let c96_614 : Index := 96#32
  ![v1499.toNat, 6, 96]
def k0_off132 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1512 : Index := Scalar.indexCast arg34
  let c7_i32_617 : BitVec 32 := 7#32
  let v1513 : Index := Scalar.indexCast c7_i32_617
  let c96_618 : Index := 96#32
  ![v1512.toNat, 7, 96]
def k0_off133 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1531 : Index := Scalar.indexCast arg34
  let c0_i32_622 : BitVec 32 := 0#32
  let v1532 : Index := Scalar.indexCast c0_i32_622
  let c112 : Index := 112#32
  ![v1531.toNat, 0, 112]
def k0_off134 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1544 : Index := Scalar.indexCast arg34
  let c1_i32_625 : BitVec 32 := 1#32
  let v1545 : Index := Scalar.indexCast c1_i32_625
  let c112_626 : Index := 112#32
  ![v1544.toNat, 1, 112]
def k0_off135 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1557 : Index := Scalar.indexCast arg34
  let c2_i32_629 : BitVec 32 := 2#32
  let v1558 : Index := Scalar.indexCast c2_i32_629
  let c112_630 : Index := 112#32
  ![v1557.toNat, 2, 112]
def k0_off136 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1570 : Index := Scalar.indexCast arg34
  let c3_i32_633 : BitVec 32 := 3#32
  let v1571 : Index := Scalar.indexCast c3_i32_633
  let c112_634 : Index := 112#32
  ![v1570.toNat, 3, 112]
def k0_off137 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1583 : Index := Scalar.indexCast arg34
  let c4_i32_637 : BitVec 32 := 4#32
  let v1584 : Index := Scalar.indexCast c4_i32_637
  let c112_638 : Index := 112#32
  ![v1583.toNat, 4, 112]
def k0_off138 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1596 : Index := Scalar.indexCast arg34
  let c5_i32_641 : BitVec 32 := 5#32
  let v1597 : Index := Scalar.indexCast c5_i32_641
  let c112_642 : Index := 112#32
  ![v1596.toNat, 5, 112]
def k0_off139 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1609 : Index := Scalar.indexCast arg34
  let c6_i32_645 : BitVec 32 := 6#32
  let v1610 : Index := Scalar.indexCast c6_i32_645
  let c112_646 : Index := 112#32
  ![v1609.toNat, 6, 112]
def k0_off140 (k0_t3 : Fin k0_t3_loop.trips) : Fin 3 → Nat :=
  let c0_i32_232 : BitVec 32 := 0#32
  let c1_i32_234 : BitVec 32 := 1#32
  let arg34 : BitVec 32 := Scf.iv c0_i32_232 c1_i32_234 k0_t3
  let v1622 : Index := Scalar.indexCast arg34
  let c7_i32_649 : BitVec 32 := 7#32
  let v1623 : Index := Scalar.indexCast c7_i32_649
  let c112_650 : Index := 112#32
  ![v1622.toNat, 7, 112]
def k0_cond4 (k0_t1 : Fin k0_t1_loop.trips) : BitVec 1 :=
  let c0_i32_92 : BitVec 32 := 0#32
  let c1_i32_94 : BitVec 32 := 1#32
  let arg32 : BitVec 32 := Scf.iv c0_i32_92 c1_i32_94 k0_t1
  let c31_i32_241 : BitVec 32 := 31#32
  let v550 : BitVec 1 := Scalar.cmpi .slt arg32 c31_i32_241
  let v551 : BitVec 32 := Scalar.extui v550
  let c0_i32_242 : BitVec 32 := 0#32
  let v552 : BitVec 1 := Scalar.cmpi .ne v551 c0_i32_242
  v552

def k0_off141 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_173 : BitVec 32 := 4#32
  let c0_i32_92 : BitVec 32 := 0#32
  let c1_i32_94 : BitVec 32 := 1#32
  let arg32 : BitVec 32 := Scf.iv c0_i32_92 c1_i32_94 k0_t1
  let v456 : BitVec 32 := Scalar.muli c4_i32_173 arg32
  let c1_i32_174 : BitVec 32 := 1#32
  let v457 : BitVec 32 := Scalar.addi v456 c1_i32_174
  let c4_i32_392 : BitVec 32 := 4#32
  let v755 : BitVec 32 := Scalar.addi v457 c4_i32_392
  let c16_i32_393 : BitVec 32 := 16#32
  let v756 : BitVec 32 := Scalar.muli v755 c16_i32_393
  let v757 : BitVec 32 := Scalar.addi v29 v756
  let c128_i32_394 : BitVec 32 := 128#32
  let v758 : BitVec 32 := Scalar.muli v757 c128_i32_394
  ![v758.toNat]
def k0_off142 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_173 : BitVec 32 := 4#32
  let c0_i32_92 : BitVec 32 := 0#32
  let c1_i32_94 : BitVec 32 := 1#32
  let arg32 : BitVec 32 := Scf.iv c0_i32_92 c1_i32_94 k0_t1
  let v456 : BitVec 32 := Scalar.muli c4_i32_173 arg32
  let c1_i32_174 : BitVec 32 := 1#32
  let v457 : BitVec 32 := Scalar.addi v456 c1_i32_174
  let c4_i32_392 : BitVec 32 := 4#32
  let v755 : BitVec 32 := Scalar.addi v457 c4_i32_392
  let c16_i32_393 : BitVec 32 := 16#32
  let v756 : BitVec 32 := Scalar.muli v755 c16_i32_393
  let v757 : BitVec 32 := Scalar.addi v29 v756
  let c0_i32_395 : BitVec 32 := 0#32
  let c0_i32_396 : BitVec 32 := 0#32
  ![v18.toNat, v757.toNat, 0, 0]
def k0_off143 (i : grid0.Coords) (k0_t1 : Fin k0_t1_loop.trips) (c2_i32_244 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_243 : BitVec 32 := 4#32
  let c0_i32_92 : BitVec 32 := 0#32
  let c1_i32_94 : BitVec 32 := 1#32
  let arg32 : BitVec 32 := Scf.iv c0_i32_92 c1_i32_94 k0_t1
  let v553 : BitVec 32 := Scalar.muli c4_i32_243 arg32
  let v554 : BitVec 32 := Scalar.addi v553 c2_i32_244
  let c2_i32_251 : BitVec 32 := 2#32
  let v564 : BitVec 32 := Scalar.subi v554 c2_i32_251
  let c16_i32_252 : BitVec 32 := 16#32
  let v565 : BitVec 32 := Scalar.muli v564 c16_i32_252
  let v566 : BitVec 32 := Scalar.addi v29 v565
  let c0_i32_253 : BitVec 32 := 0#32
  let c0_i32_254 : BitVec 32 := 0#32
  ![v18.toNat, v566.toNat, 0, 0]
@[reducible] def k0_t4_loop : Scf.Loop 32 :=
  let c0_i32_306 : BitVec 32 := 0#32
  let c16_i32_307 : BitVec 32 := 16#32
  let v643 : BitVec 32 := Scalar.addi c0_i32_306 c16_i32_307
  let c1_i32_308 : BitVec 32 := 1#32
  ⟨c0_i32_306, v643, c1_i32_308⟩
def k0_off144 (k0_t4 : Fin k0_t4_loop.trips) (c0_i32_393 : BitVec 32) : Fin 1 → Nat :=
  let c0_i32_306 : BitVec 32 := 0#32
  let c1_i32_308 : BitVec 32 := 1#32
  let arg34 : BitVec 32 := Scf.iv c0_i32_306 c1_i32_308 k0_t4
  let c128_i32_392 : BitVec 32 := 128#32
  let v755 : BitVec 32 := Scalar.muli arg34 c128_i32_392
  let v756 : BitVec 32 := Scalar.addi v755 c0_i32_393
  let v757 : Index := Scalar.indexCast v756
  ![v757.toNat]
def k0_off145 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v761 : Index := Scalar.indexCast arg34
  let c0_i32_394 : BitVec 32 := 0#32
  let v762 : Index := Scalar.indexCast c0_i32_394
  let c0_395 : Index := 0#32
  ![v761.toNat, 0, 0]
def k0_off146 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v774 : Index := Scalar.indexCast arg34
  let c1_i32_398 : BitVec 32 := 1#32
  let v775 : Index := Scalar.indexCast c1_i32_398
  let c0_399 : Index := 0#32
  ![v774.toNat, 1, 0]
def k0_off147 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v787 : Index := Scalar.indexCast arg34
  let c2_i32_402 : BitVec 32 := 2#32
  let v788 : Index := Scalar.indexCast c2_i32_402
  let c0_403 : Index := 0#32
  ![v787.toNat, 2, 0]
def k0_off148 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v800 : Index := Scalar.indexCast arg34
  let c3_i32_406 : BitVec 32 := 3#32
  let v801 : Index := Scalar.indexCast c3_i32_406
  let c0_407 : Index := 0#32
  ![v800.toNat, 3, 0]
def k0_off149 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v813 : Index := Scalar.indexCast arg34
  let c4_i32_410 : BitVec 32 := 4#32
  let v814 : Index := Scalar.indexCast c4_i32_410
  let c0_411 : Index := 0#32
  ![v813.toNat, 4, 0]
def k0_off150 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v826 : Index := Scalar.indexCast arg34
  let c5_i32_414 : BitVec 32 := 5#32
  let v827 : Index := Scalar.indexCast c5_i32_414
  let c0_415 : Index := 0#32
  ![v826.toNat, 5, 0]
def k0_off151 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v839 : Index := Scalar.indexCast arg34
  let c6_i32_418 : BitVec 32 := 6#32
  let v840 : Index := Scalar.indexCast c6_i32_418
  let c0_419 : Index := 0#32
  ![v839.toNat, 6, 0]
def k0_off152 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v852 : Index := Scalar.indexCast arg34
  let c7_i32_422 : BitVec 32 := 7#32
  let v853 : Index := Scalar.indexCast c7_i32_422
  let c0_423 : Index := 0#32
  ![v852.toNat, 7, 0]
def k0_off153 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v871 : Index := Scalar.indexCast arg34
  let c0_i32_428 : BitVec 32 := 0#32
  let v872 : Index := Scalar.indexCast c0_i32_428
  let c16 : Index := 16#32
  ![v871.toNat, 0, 16]
def k0_off154 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v884 : Index := Scalar.indexCast arg34
  let c1_i32_431 : BitVec 32 := 1#32
  let v885 : Index := Scalar.indexCast c1_i32_431
  let c16_432 : Index := 16#32
  ![v884.toNat, 1, 16]
def k0_off155 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v897 : Index := Scalar.indexCast arg34
  let c2_i32_435 : BitVec 32 := 2#32
  let v898 : Index := Scalar.indexCast c2_i32_435
  let c16_436 : Index := 16#32
  ![v897.toNat, 2, 16]
def k0_off156 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v910 : Index := Scalar.indexCast arg34
  let c3_i32_439 : BitVec 32 := 3#32
  let v911 : Index := Scalar.indexCast c3_i32_439
  let c16_440 : Index := 16#32
  ![v910.toNat, 3, 16]
def k0_off157 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v923 : Index := Scalar.indexCast arg34
  let c4_i32_443 : BitVec 32 := 4#32
  let v924 : Index := Scalar.indexCast c4_i32_443
  let c16_444 : Index := 16#32
  ![v923.toNat, 4, 16]
def k0_off158 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v936 : Index := Scalar.indexCast arg34
  let c5_i32_447 : BitVec 32 := 5#32
  let v937 : Index := Scalar.indexCast c5_i32_447
  let c16_448 : Index := 16#32
  ![v936.toNat, 5, 16]
def k0_off159 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v949 : Index := Scalar.indexCast arg34
  let c6_i32_451 : BitVec 32 := 6#32
  let v950 : Index := Scalar.indexCast c6_i32_451
  let c16_452 : Index := 16#32
  ![v949.toNat, 6, 16]
def k0_off160 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v962 : Index := Scalar.indexCast arg34
  let c7_i32_455 : BitVec 32 := 7#32
  let v963 : Index := Scalar.indexCast c7_i32_455
  let c16_456 : Index := 16#32
  ![v962.toNat, 7, 16]
def k0_off161 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v981 : Index := Scalar.indexCast arg34
  let c0_i32_461 : BitVec 32 := 0#32
  let v982 : Index := Scalar.indexCast c0_i32_461
  let c32 : Index := 32#32
  ![v981.toNat, 0, 32]
def k0_off162 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v994 : Index := Scalar.indexCast arg34
  let c1_i32_464 : BitVec 32 := 1#32
  let v995 : Index := Scalar.indexCast c1_i32_464
  let c32_465 : Index := 32#32
  ![v994.toNat, 1, 32]
def k0_off163 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1007 : Index := Scalar.indexCast arg34
  let c2_i32_468 : BitVec 32 := 2#32
  let v1008 : Index := Scalar.indexCast c2_i32_468
  let c32_469 : Index := 32#32
  ![v1007.toNat, 2, 32]
def k0_off164 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1020 : Index := Scalar.indexCast arg34
  let c3_i32_472 : BitVec 32 := 3#32
  let v1021 : Index := Scalar.indexCast c3_i32_472
  let c32_473 : Index := 32#32
  ![v1020.toNat, 3, 32]
def k0_off165 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1033 : Index := Scalar.indexCast arg34
  let c4_i32_476 : BitVec 32 := 4#32
  let v1034 : Index := Scalar.indexCast c4_i32_476
  let c32_477 : Index := 32#32
  ![v1033.toNat, 4, 32]
def k0_off166 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1046 : Index := Scalar.indexCast arg34
  let c5_i32_480 : BitVec 32 := 5#32
  let v1047 : Index := Scalar.indexCast c5_i32_480
  let c32_481 : Index := 32#32
  ![v1046.toNat, 5, 32]
def k0_off167 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1059 : Index := Scalar.indexCast arg34
  let c6_i32_484 : BitVec 32 := 6#32
  let v1060 : Index := Scalar.indexCast c6_i32_484
  let c32_485 : Index := 32#32
  ![v1059.toNat, 6, 32]
def k0_off168 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1072 : Index := Scalar.indexCast arg34
  let c7_i32_488 : BitVec 32 := 7#32
  let v1073 : Index := Scalar.indexCast c7_i32_488
  let c32_489 : Index := 32#32
  ![v1072.toNat, 7, 32]
def k0_off169 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1091 : Index := Scalar.indexCast arg34
  let c0_i32_494 : BitVec 32 := 0#32
  let v1092 : Index := Scalar.indexCast c0_i32_494
  let c48 : Index := 48#32
  ![v1091.toNat, 0, 48]
def k0_off170 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1104 : Index := Scalar.indexCast arg34
  let c1_i32_497 : BitVec 32 := 1#32
  let v1105 : Index := Scalar.indexCast c1_i32_497
  let c48_498 : Index := 48#32
  ![v1104.toNat, 1, 48]
def k0_off171 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1117 : Index := Scalar.indexCast arg34
  let c2_i32_501 : BitVec 32 := 2#32
  let v1118 : Index := Scalar.indexCast c2_i32_501
  let c48_502 : Index := 48#32
  ![v1117.toNat, 2, 48]
def k0_off172 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1130 : Index := Scalar.indexCast arg34
  let c3_i32_505 : BitVec 32 := 3#32
  let v1131 : Index := Scalar.indexCast c3_i32_505
  let c48_506 : Index := 48#32
  ![v1130.toNat, 3, 48]
def k0_off173 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1143 : Index := Scalar.indexCast arg34
  let c4_i32_509 : BitVec 32 := 4#32
  let v1144 : Index := Scalar.indexCast c4_i32_509
  let c48_510 : Index := 48#32
  ![v1143.toNat, 4, 48]
def k0_off174 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1156 : Index := Scalar.indexCast arg34
  let c5_i32_513 : BitVec 32 := 5#32
  let v1157 : Index := Scalar.indexCast c5_i32_513
  let c48_514 : Index := 48#32
  ![v1156.toNat, 5, 48]
def k0_off175 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1169 : Index := Scalar.indexCast arg34
  let c6_i32_517 : BitVec 32 := 6#32
  let v1170 : Index := Scalar.indexCast c6_i32_517
  let c48_518 : Index := 48#32
  ![v1169.toNat, 6, 48]
def k0_off176 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1182 : Index := Scalar.indexCast arg34
  let c7_i32_521 : BitVec 32 := 7#32
  let v1183 : Index := Scalar.indexCast c7_i32_521
  let c48_522 : Index := 48#32
  ![v1182.toNat, 7, 48]
def k0_off177 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1201 : Index := Scalar.indexCast arg34
  let c0_i32_526 : BitVec 32 := 0#32
  let v1202 : Index := Scalar.indexCast c0_i32_526
  let c64 : Index := 64#32
  ![v1201.toNat, 0, 64]
def k0_off178 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1214 : Index := Scalar.indexCast arg34
  let c1_i32_529 : BitVec 32 := 1#32
  let v1215 : Index := Scalar.indexCast c1_i32_529
  let c64_530 : Index := 64#32
  ![v1214.toNat, 1, 64]
def k0_off179 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1227 : Index := Scalar.indexCast arg34
  let c2_i32_533 : BitVec 32 := 2#32
  let v1228 : Index := Scalar.indexCast c2_i32_533
  let c64_534 : Index := 64#32
  ![v1227.toNat, 2, 64]
def k0_off180 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1240 : Index := Scalar.indexCast arg34
  let c3_i32_537 : BitVec 32 := 3#32
  let v1241 : Index := Scalar.indexCast c3_i32_537
  let c64_538 : Index := 64#32
  ![v1240.toNat, 3, 64]
def k0_off181 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1253 : Index := Scalar.indexCast arg34
  let c4_i32_541 : BitVec 32 := 4#32
  let v1254 : Index := Scalar.indexCast c4_i32_541
  let c64_542 : Index := 64#32
  ![v1253.toNat, 4, 64]
def k0_off182 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1266 : Index := Scalar.indexCast arg34
  let c5_i32_545 : BitVec 32 := 5#32
  let v1267 : Index := Scalar.indexCast c5_i32_545
  let c64_546 : Index := 64#32
  ![v1266.toNat, 5, 64]
def k0_off183 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1279 : Index := Scalar.indexCast arg34
  let c6_i32_549 : BitVec 32 := 6#32
  let v1280 : Index := Scalar.indexCast c6_i32_549
  let c64_550 : Index := 64#32
  ![v1279.toNat, 6, 64]
def k0_off184 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1292 : Index := Scalar.indexCast arg34
  let c7_i32_553 : BitVec 32 := 7#32
  let v1293 : Index := Scalar.indexCast c7_i32_553
  let c64_554 : Index := 64#32
  ![v1292.toNat, 7, 64]
def k0_off185 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1311 : Index := Scalar.indexCast arg34
  let c0_i32_558 : BitVec 32 := 0#32
  let v1312 : Index := Scalar.indexCast c0_i32_558
  let c80 : Index := 80#32
  ![v1311.toNat, 0, 80]
def k0_off186 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1324 : Index := Scalar.indexCast arg34
  let c1_i32_561 : BitVec 32 := 1#32
  let v1325 : Index := Scalar.indexCast c1_i32_561
  let c80_562 : Index := 80#32
  ![v1324.toNat, 1, 80]
def k0_off187 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1337 : Index := Scalar.indexCast arg34
  let c2_i32_565 : BitVec 32 := 2#32
  let v1338 : Index := Scalar.indexCast c2_i32_565
  let c80_566 : Index := 80#32
  ![v1337.toNat, 2, 80]
def k0_off188 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1350 : Index := Scalar.indexCast arg34
  let c3_i32_569 : BitVec 32 := 3#32
  let v1351 : Index := Scalar.indexCast c3_i32_569
  let c80_570 : Index := 80#32
  ![v1350.toNat, 3, 80]
def k0_off189 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1363 : Index := Scalar.indexCast arg34
  let c4_i32_573 : BitVec 32 := 4#32
  let v1364 : Index := Scalar.indexCast c4_i32_573
  let c80_574 : Index := 80#32
  ![v1363.toNat, 4, 80]
def k0_off190 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1376 : Index := Scalar.indexCast arg34
  let c5_i32_577 : BitVec 32 := 5#32
  let v1377 : Index := Scalar.indexCast c5_i32_577
  let c80_578 : Index := 80#32
  ![v1376.toNat, 5, 80]
def k0_off191 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1389 : Index := Scalar.indexCast arg34
  let c6_i32_581 : BitVec 32 := 6#32
  let v1390 : Index := Scalar.indexCast c6_i32_581
  let c80_582 : Index := 80#32
  ![v1389.toNat, 6, 80]
def k0_off192 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1402 : Index := Scalar.indexCast arg34
  let c7_i32_585 : BitVec 32 := 7#32
  let v1403 : Index := Scalar.indexCast c7_i32_585
  let c80_586 : Index := 80#32
  ![v1402.toNat, 7, 80]
def k0_off193 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1421 : Index := Scalar.indexCast arg34
  let c0_i32_590 : BitVec 32 := 0#32
  let v1422 : Index := Scalar.indexCast c0_i32_590
  let c96 : Index := 96#32
  ![v1421.toNat, 0, 96]
def k0_off194 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1434 : Index := Scalar.indexCast arg34
  let c1_i32_593 : BitVec 32 := 1#32
  let v1435 : Index := Scalar.indexCast c1_i32_593
  let c96_594 : Index := 96#32
  ![v1434.toNat, 1, 96]
def k0_off195 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1447 : Index := Scalar.indexCast arg34
  let c2_i32_597 : BitVec 32 := 2#32
  let v1448 : Index := Scalar.indexCast c2_i32_597
  let c96_598 : Index := 96#32
  ![v1447.toNat, 2, 96]
def k0_off196 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1460 : Index := Scalar.indexCast arg34
  let c3_i32_601 : BitVec 32 := 3#32
  let v1461 : Index := Scalar.indexCast c3_i32_601
  let c96_602 : Index := 96#32
  ![v1460.toNat, 3, 96]
def k0_off197 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1473 : Index := Scalar.indexCast arg34
  let c4_i32_605 : BitVec 32 := 4#32
  let v1474 : Index := Scalar.indexCast c4_i32_605
  let c96_606 : Index := 96#32
  ![v1473.toNat, 4, 96]
def k0_off198 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1486 : Index := Scalar.indexCast arg34
  let c5_i32_609 : BitVec 32 := 5#32
  let v1487 : Index := Scalar.indexCast c5_i32_609
  let c96_610 : Index := 96#32
  ![v1486.toNat, 5, 96]
def k0_off199 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1499 : Index := Scalar.indexCast arg34
  let c6_i32_613 : BitVec 32 := 6#32
  let v1500 : Index := Scalar.indexCast c6_i32_613
  let c96_614 : Index := 96#32
  ![v1499.toNat, 6, 96]
def k0_off200 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1512 : Index := Scalar.indexCast arg34
  let c7_i32_617 : BitVec 32 := 7#32
  let v1513 : Index := Scalar.indexCast c7_i32_617
  let c96_618 : Index := 96#32
  ![v1512.toNat, 7, 96]
def k0_off201 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1531 : Index := Scalar.indexCast arg34
  let c0_i32_622 : BitVec 32 := 0#32
  let v1532 : Index := Scalar.indexCast c0_i32_622
  let c112 : Index := 112#32
  ![v1531.toNat, 0, 112]
def k0_off202 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1544 : Index := Scalar.indexCast arg34
  let c1_i32_625 : BitVec 32 := 1#32
  let v1545 : Index := Scalar.indexCast c1_i32_625
  let c112_626 : Index := 112#32
  ![v1544.toNat, 1, 112]
def k0_off203 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1557 : Index := Scalar.indexCast arg34
  let c2_i32_629 : BitVec 32 := 2#32
  let v1558 : Index := Scalar.indexCast c2_i32_629
  let c112_630 : Index := 112#32
  ![v1557.toNat, 2, 112]
def k0_off204 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1570 : Index := Scalar.indexCast arg34
  let c3_i32_633 : BitVec 32 := 3#32
  let v1571 : Index := Scalar.indexCast c3_i32_633
  let c112_634 : Index := 112#32
  ![v1570.toNat, 3, 112]
def k0_off205 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1583 : Index := Scalar.indexCast arg34
  let c4_i32_637 : BitVec 32 := 4#32
  let v1584 : Index := Scalar.indexCast c4_i32_637
  let c112_638 : Index := 112#32
  ![v1583.toNat, 4, 112]
def k0_off206 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1596 : Index := Scalar.indexCast arg34
  let c5_i32_641 : BitVec 32 := 5#32
  let v1597 : Index := Scalar.indexCast c5_i32_641
  let c112_642 : Index := 112#32
  ![v1596.toNat, 5, 112]
def k0_off207 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1609 : Index := Scalar.indexCast arg34
  let c6_i32_645 : BitVec 32 := 6#32
  let v1610 : Index := Scalar.indexCast c6_i32_645
  let c112_646 : Index := 112#32
  ![v1609.toNat, 6, 112]
def k0_off208 (k0_t4 : Fin k0_t4_loop.trips) : Fin 3 → Nat :=
  let c0_i32_306 : BitVec 32 := 0#32
  let c1_i32_308 : BitVec 32 := 1#32
  let arg34 : BitVec 32 := Scf.iv c0_i32_306 c1_i32_308 k0_t4
  let v1622 : Index := Scalar.indexCast arg34
  let c7_i32_649 : BitVec 32 := 7#32
  let v1623 : Index := Scalar.indexCast c7_i32_649
  let c112_650 : Index := 112#32
  ![v1622.toNat, 7, 112]
def k0_cond5 (k0_t1 : Fin k0_t1_loop.trips) : BitVec 1 :=
  let c0_i32_92 : BitVec 32 := 0#32
  let c1_i32_94 : BitVec 32 := 1#32
  let arg32 : BitVec 32 := Scf.iv c0_i32_92 c1_i32_94 k0_t1
  let c31_i32_315 : BitVec 32 := 31#32
  let v651 : BitVec 1 := Scalar.cmpi .slt arg32 c31_i32_315
  let v652 : BitVec 32 := Scalar.extui v651
  let c0_i32_316 : BitVec 32 := 0#32
  let v653 : BitVec 1 := Scalar.cmpi .ne v652 c0_i32_316
  v653

def k0_off209 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_243 : BitVec 32 := 4#32
  let c0_i32_92 : BitVec 32 := 0#32
  let c1_i32_94 : BitVec 32 := 1#32
  let arg32 : BitVec 32 := Scf.iv c0_i32_92 c1_i32_94 k0_t1
  let v553 : BitVec 32 := Scalar.muli c4_i32_243 arg32
  let c2_i32_244 : BitVec 32 := 2#32
  let v554 : BitVec 32 := Scalar.addi v553 c2_i32_244
  let c4_i32_392 : BitVec 32 := 4#32
  let v755 : BitVec 32 := Scalar.addi v554 c4_i32_392
  let c16_i32_393 : BitVec 32 := 16#32
  let v756 : BitVec 32 := Scalar.muli v755 c16_i32_393
  let v757 : BitVec 32 := Scalar.addi v29 v756
  let c128_i32_394 : BitVec 32 := 128#32
  let v758 : BitVec 32 := Scalar.muli v757 c128_i32_394
  ![v758.toNat]
def k0_off210 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_243 : BitVec 32 := 4#32
  let c0_i32_92 : BitVec 32 := 0#32
  let c1_i32_94 : BitVec 32 := 1#32
  let arg32 : BitVec 32 := Scf.iv c0_i32_92 c1_i32_94 k0_t1
  let v553 : BitVec 32 := Scalar.muli c4_i32_243 arg32
  let c2_i32_244 : BitVec 32 := 2#32
  let v554 : BitVec 32 := Scalar.addi v553 c2_i32_244
  let c4_i32_392 : BitVec 32 := 4#32
  let v755 : BitVec 32 := Scalar.addi v554 c4_i32_392
  let c16_i32_393 : BitVec 32 := 16#32
  let v756 : BitVec 32 := Scalar.muli v755 c16_i32_393
  let v757 : BitVec 32 := Scalar.addi v29 v756
  let c0_i32_395 : BitVec 32 := 0#32
  let c0_i32_396 : BitVec 32 := 0#32
  ![v18.toNat, v757.toNat, 0, 0]
@[reducible] def k0_t5_loop : Scf.Loop 32 :=
  let c0_i32_380 : BitVec 32 := 0#32
  let c16_i32_381 : BitVec 32 := 16#32
  let v744 : BitVec 32 := Scalar.addi c0_i32_380 c16_i32_381
  let c1_i32_382 : BitVec 32 := 1#32
  ⟨c0_i32_380, v744, c1_i32_382⟩
def k0_off211 (k0_t5 : Fin k0_t5_loop.trips) (c0_i32_393 : BitVec 32) : Fin 1 → Nat :=
  let c0_i32_380 : BitVec 32 := 0#32
  let c1_i32_382 : BitVec 32 := 1#32
  let arg34 : BitVec 32 := Scf.iv c0_i32_380 c1_i32_382 k0_t5
  let c128_i32_392 : BitVec 32 := 128#32
  let v755 : BitVec 32 := Scalar.muli arg34 c128_i32_392
  let v756 : BitVec 32 := Scalar.addi v755 c0_i32_393
  let v757 : Index := Scalar.indexCast v756
  ![v757.toNat]
def k0_off212 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v761 : Index := Scalar.indexCast arg34
  let c0_i32_394 : BitVec 32 := 0#32
  let v762 : Index := Scalar.indexCast c0_i32_394
  let c0_395 : Index := 0#32
  ![v761.toNat, 0, 0]
def k0_off213 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v774 : Index := Scalar.indexCast arg34
  let c1_i32_398 : BitVec 32 := 1#32
  let v775 : Index := Scalar.indexCast c1_i32_398
  let c0_399 : Index := 0#32
  ![v774.toNat, 1, 0]
def k0_off214 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v787 : Index := Scalar.indexCast arg34
  let c2_i32_402 : BitVec 32 := 2#32
  let v788 : Index := Scalar.indexCast c2_i32_402
  let c0_403 : Index := 0#32
  ![v787.toNat, 2, 0]
def k0_off215 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v800 : Index := Scalar.indexCast arg34
  let c3_i32_406 : BitVec 32 := 3#32
  let v801 : Index := Scalar.indexCast c3_i32_406
  let c0_407 : Index := 0#32
  ![v800.toNat, 3, 0]
def k0_off216 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v813 : Index := Scalar.indexCast arg34
  let c4_i32_410 : BitVec 32 := 4#32
  let v814 : Index := Scalar.indexCast c4_i32_410
  let c0_411 : Index := 0#32
  ![v813.toNat, 4, 0]
def k0_off217 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v826 : Index := Scalar.indexCast arg34
  let c5_i32_414 : BitVec 32 := 5#32
  let v827 : Index := Scalar.indexCast c5_i32_414
  let c0_415 : Index := 0#32
  ![v826.toNat, 5, 0]
def k0_off218 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v839 : Index := Scalar.indexCast arg34
  let c6_i32_418 : BitVec 32 := 6#32
  let v840 : Index := Scalar.indexCast c6_i32_418
  let c0_419 : Index := 0#32
  ![v839.toNat, 6, 0]
def k0_off219 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v852 : Index := Scalar.indexCast arg34
  let c7_i32_422 : BitVec 32 := 7#32
  let v853 : Index := Scalar.indexCast c7_i32_422
  let c0_423 : Index := 0#32
  ![v852.toNat, 7, 0]
def k0_off220 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v871 : Index := Scalar.indexCast arg34
  let c0_i32_428 : BitVec 32 := 0#32
  let v872 : Index := Scalar.indexCast c0_i32_428
  let c16 : Index := 16#32
  ![v871.toNat, 0, 16]
def k0_off221 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v884 : Index := Scalar.indexCast arg34
  let c1_i32_431 : BitVec 32 := 1#32
  let v885 : Index := Scalar.indexCast c1_i32_431
  let c16_432 : Index := 16#32
  ![v884.toNat, 1, 16]
def k0_off222 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v897 : Index := Scalar.indexCast arg34
  let c2_i32_435 : BitVec 32 := 2#32
  let v898 : Index := Scalar.indexCast c2_i32_435
  let c16_436 : Index := 16#32
  ![v897.toNat, 2, 16]
def k0_off223 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v910 : Index := Scalar.indexCast arg34
  let c3_i32_439 : BitVec 32 := 3#32
  let v911 : Index := Scalar.indexCast c3_i32_439
  let c16_440 : Index := 16#32
  ![v910.toNat, 3, 16]
def k0_off224 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v923 : Index := Scalar.indexCast arg34
  let c4_i32_443 : BitVec 32 := 4#32
  let v924 : Index := Scalar.indexCast c4_i32_443
  let c16_444 : Index := 16#32
  ![v923.toNat, 4, 16]
def k0_off225 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v936 : Index := Scalar.indexCast arg34
  let c5_i32_447 : BitVec 32 := 5#32
  let v937 : Index := Scalar.indexCast c5_i32_447
  let c16_448 : Index := 16#32
  ![v936.toNat, 5, 16]
def k0_off226 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v949 : Index := Scalar.indexCast arg34
  let c6_i32_451 : BitVec 32 := 6#32
  let v950 : Index := Scalar.indexCast c6_i32_451
  let c16_452 : Index := 16#32
  ![v949.toNat, 6, 16]
def k0_off227 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v962 : Index := Scalar.indexCast arg34
  let c7_i32_455 : BitVec 32 := 7#32
  let v963 : Index := Scalar.indexCast c7_i32_455
  let c16_456 : Index := 16#32
  ![v962.toNat, 7, 16]
def k0_off228 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v981 : Index := Scalar.indexCast arg34
  let c0_i32_461 : BitVec 32 := 0#32
  let v982 : Index := Scalar.indexCast c0_i32_461
  let c32 : Index := 32#32
  ![v981.toNat, 0, 32]
def k0_off229 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v994 : Index := Scalar.indexCast arg34
  let c1_i32_464 : BitVec 32 := 1#32
  let v995 : Index := Scalar.indexCast c1_i32_464
  let c32_465 : Index := 32#32
  ![v994.toNat, 1, 32]
def k0_off230 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1007 : Index := Scalar.indexCast arg34
  let c2_i32_468 : BitVec 32 := 2#32
  let v1008 : Index := Scalar.indexCast c2_i32_468
  let c32_469 : Index := 32#32
  ![v1007.toNat, 2, 32]
def k0_off231 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1020 : Index := Scalar.indexCast arg34
  let c3_i32_472 : BitVec 32 := 3#32
  let v1021 : Index := Scalar.indexCast c3_i32_472
  let c32_473 : Index := 32#32
  ![v1020.toNat, 3, 32]
def k0_off232 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1033 : Index := Scalar.indexCast arg34
  let c4_i32_476 : BitVec 32 := 4#32
  let v1034 : Index := Scalar.indexCast c4_i32_476
  let c32_477 : Index := 32#32
  ![v1033.toNat, 4, 32]
def k0_off233 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1046 : Index := Scalar.indexCast arg34
  let c5_i32_480 : BitVec 32 := 5#32
  let v1047 : Index := Scalar.indexCast c5_i32_480
  let c32_481 : Index := 32#32
  ![v1046.toNat, 5, 32]
def k0_off234 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1059 : Index := Scalar.indexCast arg34
  let c6_i32_484 : BitVec 32 := 6#32
  let v1060 : Index := Scalar.indexCast c6_i32_484
  let c32_485 : Index := 32#32
  ![v1059.toNat, 6, 32]
def k0_off235 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1072 : Index := Scalar.indexCast arg34
  let c7_i32_488 : BitVec 32 := 7#32
  let v1073 : Index := Scalar.indexCast c7_i32_488
  let c32_489 : Index := 32#32
  ![v1072.toNat, 7, 32]
def k0_off236 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1091 : Index := Scalar.indexCast arg34
  let c0_i32_494 : BitVec 32 := 0#32
  let v1092 : Index := Scalar.indexCast c0_i32_494
  let c48 : Index := 48#32
  ![v1091.toNat, 0, 48]
def k0_off237 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1104 : Index := Scalar.indexCast arg34
  let c1_i32_497 : BitVec 32 := 1#32
  let v1105 : Index := Scalar.indexCast c1_i32_497
  let c48_498 : Index := 48#32
  ![v1104.toNat, 1, 48]
def k0_off238 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1117 : Index := Scalar.indexCast arg34
  let c2_i32_501 : BitVec 32 := 2#32
  let v1118 : Index := Scalar.indexCast c2_i32_501
  let c48_502 : Index := 48#32
  ![v1117.toNat, 2, 48]
def k0_off239 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1130 : Index := Scalar.indexCast arg34
  let c3_i32_505 : BitVec 32 := 3#32
  let v1131 : Index := Scalar.indexCast c3_i32_505
  let c48_506 : Index := 48#32
  ![v1130.toNat, 3, 48]
def k0_off240 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1143 : Index := Scalar.indexCast arg34
  let c4_i32_509 : BitVec 32 := 4#32
  let v1144 : Index := Scalar.indexCast c4_i32_509
  let c48_510 : Index := 48#32
  ![v1143.toNat, 4, 48]
def k0_off241 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1156 : Index := Scalar.indexCast arg34
  let c5_i32_513 : BitVec 32 := 5#32
  let v1157 : Index := Scalar.indexCast c5_i32_513
  let c48_514 : Index := 48#32
  ![v1156.toNat, 5, 48]
def k0_off242 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1169 : Index := Scalar.indexCast arg34
  let c6_i32_517 : BitVec 32 := 6#32
  let v1170 : Index := Scalar.indexCast c6_i32_517
  let c48_518 : Index := 48#32
  ![v1169.toNat, 6, 48]
def k0_off243 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1182 : Index := Scalar.indexCast arg34
  let c7_i32_521 : BitVec 32 := 7#32
  let v1183 : Index := Scalar.indexCast c7_i32_521
  let c48_522 : Index := 48#32
  ![v1182.toNat, 7, 48]
def k0_off244 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1201 : Index := Scalar.indexCast arg34
  let c0_i32_526 : BitVec 32 := 0#32
  let v1202 : Index := Scalar.indexCast c0_i32_526
  let c64 : Index := 64#32
  ![v1201.toNat, 0, 64]
def k0_off245 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1214 : Index := Scalar.indexCast arg34
  let c1_i32_529 : BitVec 32 := 1#32
  let v1215 : Index := Scalar.indexCast c1_i32_529
  let c64_530 : Index := 64#32
  ![v1214.toNat, 1, 64]
def k0_off246 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1227 : Index := Scalar.indexCast arg34
  let c2_i32_533 : BitVec 32 := 2#32
  let v1228 : Index := Scalar.indexCast c2_i32_533
  let c64_534 : Index := 64#32
  ![v1227.toNat, 2, 64]
def k0_off247 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1240 : Index := Scalar.indexCast arg34
  let c3_i32_537 : BitVec 32 := 3#32
  let v1241 : Index := Scalar.indexCast c3_i32_537
  let c64_538 : Index := 64#32
  ![v1240.toNat, 3, 64]
def k0_off248 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1253 : Index := Scalar.indexCast arg34
  let c4_i32_541 : BitVec 32 := 4#32
  let v1254 : Index := Scalar.indexCast c4_i32_541
  let c64_542 : Index := 64#32
  ![v1253.toNat, 4, 64]
def k0_off249 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1266 : Index := Scalar.indexCast arg34
  let c5_i32_545 : BitVec 32 := 5#32
  let v1267 : Index := Scalar.indexCast c5_i32_545
  let c64_546 : Index := 64#32
  ![v1266.toNat, 5, 64]
def k0_off250 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1279 : Index := Scalar.indexCast arg34
  let c6_i32_549 : BitVec 32 := 6#32
  let v1280 : Index := Scalar.indexCast c6_i32_549
  let c64_550 : Index := 64#32
  ![v1279.toNat, 6, 64]
def k0_off251 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1292 : Index := Scalar.indexCast arg34
  let c7_i32_553 : BitVec 32 := 7#32
  let v1293 : Index := Scalar.indexCast c7_i32_553
  let c64_554 : Index := 64#32
  ![v1292.toNat, 7, 64]
def k0_off252 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1311 : Index := Scalar.indexCast arg34
  let c0_i32_558 : BitVec 32 := 0#32
  let v1312 : Index := Scalar.indexCast c0_i32_558
  let c80 : Index := 80#32
  ![v1311.toNat, 0, 80]
def k0_off253 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1324 : Index := Scalar.indexCast arg34
  let c1_i32_561 : BitVec 32 := 1#32
  let v1325 : Index := Scalar.indexCast c1_i32_561
  let c80_562 : Index := 80#32
  ![v1324.toNat, 1, 80]
def k0_off254 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1337 : Index := Scalar.indexCast arg34
  let c2_i32_565 : BitVec 32 := 2#32
  let v1338 : Index := Scalar.indexCast c2_i32_565
  let c80_566 : Index := 80#32
  ![v1337.toNat, 2, 80]
def k0_off255 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1350 : Index := Scalar.indexCast arg34
  let c3_i32_569 : BitVec 32 := 3#32
  let v1351 : Index := Scalar.indexCast c3_i32_569
  let c80_570 : Index := 80#32
  ![v1350.toNat, 3, 80]
def k0_off256 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1363 : Index := Scalar.indexCast arg34
  let c4_i32_573 : BitVec 32 := 4#32
  let v1364 : Index := Scalar.indexCast c4_i32_573
  let c80_574 : Index := 80#32
  ![v1363.toNat, 4, 80]
def k0_off257 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1376 : Index := Scalar.indexCast arg34
  let c5_i32_577 : BitVec 32 := 5#32
  let v1377 : Index := Scalar.indexCast c5_i32_577
  let c80_578 : Index := 80#32
  ![v1376.toNat, 5, 80]
def k0_off258 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1389 : Index := Scalar.indexCast arg34
  let c6_i32_581 : BitVec 32 := 6#32
  let v1390 : Index := Scalar.indexCast c6_i32_581
  let c80_582 : Index := 80#32
  ![v1389.toNat, 6, 80]
def k0_off259 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1402 : Index := Scalar.indexCast arg34
  let c7_i32_585 : BitVec 32 := 7#32
  let v1403 : Index := Scalar.indexCast c7_i32_585
  let c80_586 : Index := 80#32
  ![v1402.toNat, 7, 80]
def k0_off260 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1421 : Index := Scalar.indexCast arg34
  let c0_i32_590 : BitVec 32 := 0#32
  let v1422 : Index := Scalar.indexCast c0_i32_590
  let c96 : Index := 96#32
  ![v1421.toNat, 0, 96]
def k0_off261 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1434 : Index := Scalar.indexCast arg34
  let c1_i32_593 : BitVec 32 := 1#32
  let v1435 : Index := Scalar.indexCast c1_i32_593
  let c96_594 : Index := 96#32
  ![v1434.toNat, 1, 96]
def k0_off262 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1447 : Index := Scalar.indexCast arg34
  let c2_i32_597 : BitVec 32 := 2#32
  let v1448 : Index := Scalar.indexCast c2_i32_597
  let c96_598 : Index := 96#32
  ![v1447.toNat, 2, 96]
def k0_off263 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1460 : Index := Scalar.indexCast arg34
  let c3_i32_601 : BitVec 32 := 3#32
  let v1461 : Index := Scalar.indexCast c3_i32_601
  let c96_602 : Index := 96#32
  ![v1460.toNat, 3, 96]
def k0_off264 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1473 : Index := Scalar.indexCast arg34
  let c4_i32_605 : BitVec 32 := 4#32
  let v1474 : Index := Scalar.indexCast c4_i32_605
  let c96_606 : Index := 96#32
  ![v1473.toNat, 4, 96]
def k0_off265 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1486 : Index := Scalar.indexCast arg34
  let c5_i32_609 : BitVec 32 := 5#32
  let v1487 : Index := Scalar.indexCast c5_i32_609
  let c96_610 : Index := 96#32
  ![v1486.toNat, 5, 96]
def k0_off266 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1499 : Index := Scalar.indexCast arg34
  let c6_i32_613 : BitVec 32 := 6#32
  let v1500 : Index := Scalar.indexCast c6_i32_613
  let c96_614 : Index := 96#32
  ![v1499.toNat, 6, 96]
def k0_off267 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1512 : Index := Scalar.indexCast arg34
  let c7_i32_617 : BitVec 32 := 7#32
  let v1513 : Index := Scalar.indexCast c7_i32_617
  let c96_618 : Index := 96#32
  ![v1512.toNat, 7, 96]
def k0_off268 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1531 : Index := Scalar.indexCast arg34
  let c0_i32_622 : BitVec 32 := 0#32
  let v1532 : Index := Scalar.indexCast c0_i32_622
  let c112 : Index := 112#32
  ![v1531.toNat, 0, 112]
def k0_off269 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1544 : Index := Scalar.indexCast arg34
  let c1_i32_625 : BitVec 32 := 1#32
  let v1545 : Index := Scalar.indexCast c1_i32_625
  let c112_626 : Index := 112#32
  ![v1544.toNat, 1, 112]
def k0_off270 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1557 : Index := Scalar.indexCast arg34
  let c2_i32_629 : BitVec 32 := 2#32
  let v1558 : Index := Scalar.indexCast c2_i32_629
  let c112_630 : Index := 112#32
  ![v1557.toNat, 2, 112]
def k0_off271 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1570 : Index := Scalar.indexCast arg34
  let c3_i32_633 : BitVec 32 := 3#32
  let v1571 : Index := Scalar.indexCast c3_i32_633
  let c112_634 : Index := 112#32
  ![v1570.toNat, 3, 112]
def k0_off272 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1583 : Index := Scalar.indexCast arg34
  let c4_i32_637 : BitVec 32 := 4#32
  let v1584 : Index := Scalar.indexCast c4_i32_637
  let c112_638 : Index := 112#32
  ![v1583.toNat, 4, 112]
def k0_off273 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1596 : Index := Scalar.indexCast arg34
  let c5_i32_641 : BitVec 32 := 5#32
  let v1597 : Index := Scalar.indexCast c5_i32_641
  let c112_642 : Index := 112#32
  ![v1596.toNat, 5, 112]
def k0_off274 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1609 : Index := Scalar.indexCast arg34
  let c6_i32_645 : BitVec 32 := 6#32
  let v1610 : Index := Scalar.indexCast c6_i32_645
  let c112_646 : Index := 112#32
  ![v1609.toNat, 6, 112]
def k0_off275 (k0_t5 : Fin k0_t5_loop.trips) : Fin 3 → Nat :=
  let c0_i32_380 : BitVec 32 := 0#32
  let c1_i32_382 : BitVec 32 := 1#32
  let arg34 : BitVec 32 := Scf.iv c0_i32_380 c1_i32_382 k0_t5
  let v1622 : Index := Scalar.indexCast arg34
  let c7_i32_649 : BitVec 32 := 7#32
  let v1623 : Index := Scalar.indexCast c7_i32_649
  let c112_650 : Index := 112#32
  ![v1622.toNat, 7, 112]
def k0_cond6 (k0_t1 : Fin k0_t1_loop.trips) : BitVec 1 :=
  let c0_i32_92 : BitVec 32 := 0#32
  let c1_i32_94 : BitVec 32 := 1#32
  let arg32 : BitVec 32 := Scf.iv c0_i32_92 c1_i32_94 k0_t1
  let c31_i32_389 : BitVec 32 := 31#32
  let v752 : BitVec 1 := Scalar.cmpi .slt arg32 c31_i32_389
  let v753 : BitVec 32 := Scalar.extui v752
  let c0_i32_390 : BitVec 32 := 0#32
  let v754 : BitVec 1 := Scalar.cmpi .ne v753 c0_i32_390
  v754

def k0_off276 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_317 : BitVec 32 := 4#32
  let c0_i32_92 : BitVec 32 := 0#32
  let c1_i32_94 : BitVec 32 := 1#32
  let arg32 : BitVec 32 := Scf.iv c0_i32_92 c1_i32_94 k0_t1
  let v654 : BitVec 32 := Scalar.muli c4_i32_317 arg32
  let c3_i32_318 : BitVec 32 := 3#32
  let v655 : BitVec 32 := Scalar.addi v654 c3_i32_318
  let c4_i32_392 : BitVec 32 := 4#32
  let v755 : BitVec 32 := Scalar.addi v655 c4_i32_392
  let c16_i32_393 : BitVec 32 := 16#32
  let v756 : BitVec 32 := Scalar.muli v755 c16_i32_393
  let v757 : BitVec 32 := Scalar.addi v29 v756
  let c128_i32_394 : BitVec 32 := 128#32
  let v758 : BitVec 32 := Scalar.muli v757 c128_i32_394
  ![v758.toNat]
def k0_off277 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let c4_i32_317 : BitVec 32 := 4#32
  let c0_i32_92 : BitVec 32 := 0#32
  let c1_i32_94 : BitVec 32 := 1#32
  let arg32 : BitVec 32 := Scf.iv c0_i32_92 c1_i32_94 k0_t1
  let v654 : BitVec 32 := Scalar.muli c4_i32_317 arg32
  let c3_i32_318 : BitVec 32 := 3#32
  let v655 : BitVec 32 := Scalar.addi v654 c3_i32_318
  let c4_i32_392 : BitVec 32 := 4#32
  let v755 : BitVec 32 := Scalar.addi v655 c4_i32_392
  let c16_i32_393 : BitVec 32 := 16#32
  let v756 : BitVec 32 := Scalar.muli v755 c16_i32_393
  let v757 : BitVec 32 := Scalar.addi v29 v756
  let c0_i32_395 : BitVec 32 := 0#32
  let c0_i32_396 : BitVec 32 := 0#32
  ![v18.toNat, v757.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576 : Shape := ⟨1, ![1048576]⟩
abbrev S1048576x64 : Shape := ⟨2, ![1048576, 64]⟩
abbrev S2x64 : Shape := ⟨2, ![2, 64]⟩
abbrev S_ : Shape := ⟨0, ![]⟩
abbrev S1048576x1 : Shape := ⟨2, ![1048576, 1]⟩
abbrev S1 : Shape := ⟨1, ![1]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S1048576, .i32⟩
  | .hbm, ⟨1, _⟩ => ⟨S1048576x64, .f32⟩
  | .hbm, ⟨2, _⟩ => ⟨S2x64, .f32⟩
  | .hbm, ⟨3, _⟩ => ⟨S2x64, .f32⟩
  | .hbm, ⟨4, _⟩ => ⟨S_, .i32⟩
  | .hbm, ⟨5, _⟩ => ⟨S1048576, .i32⟩
  | .hbm, ⟨6, _⟩ => ⟨S1048576, .i1⟩
  | .hbm, ⟨7, _⟩ => ⟨S_, .i32⟩
  | .hbm, ⟨8, _⟩ => ⟨S1048576, .i32⟩
  | .hbm, ⟨9, _⟩ => ⟨S1048576, .i32⟩
  | .hbm, ⟨10, _⟩ => ⟨S1048576, .i32⟩
  | .hbm, ⟨11, _⟩ => ⟨S1048576x1, .i32⟩
  | .hbm, ⟨12, _⟩ => ⟨S1, .i32⟩
  | .hbm, ⟨13, _⟩ => ⟨S_, .i32⟩
  | .hbm, ⟨14, _⟩ => ⟨S1048576x1, .i32⟩
  | .hbm, ⟨15, _⟩ => ⟨S1048576x1, .i1⟩
  | .hbm, ⟨16, _⟩ => ⟨S1x1, .i32⟩
  | .hbm, ⟨17, _⟩ => ⟨S1048576x1, .i32⟩
  | .hbm, ⟨18, _⟩ => ⟨S1048576x1, .i1⟩
  | .hbm, ⟨19, _⟩ => ⟨S1048576x1, .i1⟩
  | .hbm, ⟨20, _⟩ => ⟨S_, .i1⟩
  | .hbm, ⟨21, _⟩ => ⟨S1048576, .i1⟩
  | .hbm, ⟨22, _⟩ => ⟨S1048576x64, .f32⟩
  | .hbm, ⟨23, _⟩ => ⟨S1048576x64, .i1⟩
  | .hbm, ⟨24, _⟩ => ⟨S_, .f32⟩
  | .hbm, ⟨25, _⟩ => ⟨S1048576x64, .f32⟩
  | .hbm, ⟨26, _⟩ => ⟨S1048576x64, .f32⟩
  | .hbm, ⟨27, _⟩ => ⟨S_, .i32⟩
  | .hbm, ⟨28, _⟩ => ⟨S1048576, .i32⟩
  | .hbm, ⟨29, _⟩ => ⟨S1048576, .i1⟩
  | .hbm, ⟨30, _⟩ => ⟨S_, .i32⟩
  | .hbm, ⟨31, _⟩ => ⟨S1048576, .i32⟩
  | .hbm, ⟨32, _⟩ => ⟨S1048576, .i32⟩
  | .hbm, ⟨33, _⟩ => ⟨S1048576, .i32⟩
  | .hbm, ⟨34, _⟩ => ⟨S1048576x1, .i32⟩
  | .hbm, ⟨35, _⟩ => ⟨S1, .i32⟩
  | .hbm, ⟨36, _⟩ => ⟨S_, .i32⟩
  | .hbm, ⟨37, _⟩ => ⟨S1048576x1, .i32⟩
  | .hbm, ⟨38, _⟩ => ⟨S1048576x1, .i1⟩
  | .hbm, ⟨39, _⟩ => ⟨S1x1, .i32⟩
  | .hbm, ⟨40, _⟩ => ⟨S1048576x1, .i32⟩
  | .hbm, ⟨41, _⟩ => ⟨S1048576x1, .i1⟩
  | .hbm, ⟨42, _⟩ => ⟨S1048576x1, .i1⟩
  | .hbm, ⟨43, _⟩ => ⟨S_, .i1⟩
  | .hbm, ⟨44, _⟩ => ⟨S1048576, .i1⟩
  | .hbm, ⟨45, _⟩ => ⟨S1048576x64, .f32⟩
  | .hbm, ⟨46, _⟩ => ⟨S1048576x64, .i1⟩
  | .hbm, ⟨47, _⟩ => ⟨S_, .f32⟩
  | .hbm, ⟨48, _⟩ => ⟨S1048576x64, .f32⟩
  | .hbm, ⟨49, _⟩ => ⟨S1048576x64, .f32⟩
  | .hbm, ⟨50, _⟩ => ⟨S_, .f32⟩
  | .hbm, ⟨51, _⟩ => ⟨S1048576x64, .f32⟩
  | .hbm, ⟨52, _⟩ => ⟨S1048576x64, .f32⟩
  | .hbm, ⟨53, _⟩ => ⟨S1048576x64, .f32⟩
  | .hbm, ⟨54, _⟩ => ⟨S1048576x64, .f32⟩
  | .hbm, ⟨55, _⟩ => ⟨S1048576x64, .f32⟩
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_cst : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩

abbrev nD : Nat := 1
abbrev τ : Topo := Topo.v7x

variable {F : FTy → Type} [FloatOps F]
-- ==== Proof.Base.lean ====
/-
  The words the other modules share: the program as the launch theorem sees it, the ghost algebra, a tile's thread, and
  the kernel's printed bodies at the arrays and scratch buffers the program passes them.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's handshakes and, beside them, the counters of the tiles' own transfers. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A tile -/

/-- The SparseCore and the tile of it that run the body at coordinates `L`. -/
abbrev cV (L : grid0.Coords) : Fin τ.nSC := (L 0).castLE hcore0
abbrev wV (L : grid0.Coords) : Fin τ.nSub := (L 1).castLE hsub0
abbrev tV (d : Dev nD) (L : grid0.Coords) : Thread nD τ := V d (cV L) (wV L)

/-- A tile's buffer, whole, holding `f`. -/
abbrev bufAt (d : Dev nD) (L : grid0.Coords) (b : Ref sig .scVector) (f : Buf (Elt F) ((tV d L).loc b)) : sProp 𝕄 :=
  (Memref.whole b).view.loc (tV d L) ↦{fullShare} f

variable [FloatOps F]

/-! ## The printed bodies at the program's arrays -/

/-- The kernel, at the tile of coordinates `L`. -/
abbrev kern (L : grid0.Coords) :=
  cc0__sc_kernel (F := F) L (Memref.whole main_arg0_scv) (Memref.isWhole_whole _) (Memref.whole main_v1_scv) (Memref.isWhole_whole _)
    (Memref.whole main_arg2_scv) (Memref.isWhole_whole _) (Memref.whole main_arg3_scv) (Memref.isWhole_whole _)
    (Memref.whole main_v2_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    (Memref.whole cc0_scratch11) (Memref.isWhole_whole _) (Memref.whole cc0_scratch12) (Memref.isWhole_whole _)
    (Memref.whole cc0_scratch13) (Memref.isWhole_whole _) (Memref.whole cc0_scratch14) (Memref.isWhole_whole _)
    cc0_scratch15 cc0_scratch16 cc0_scratch17 cc0_scratch18 cc0_scratch19 cc0_scratch20 cc0_scratch21
    cc0_scratch22 cc0_scratch23 cc0_scratch24 cc0_scoped0 cc0_scoped1

/-- One step (four chunks), at the tile of coordinates `L`. -/
abbrev stepB (L : grid0.Coords) :=
  k0_t1_body (F := F) L (Memref.whole main_arg0_scv) (Memref.isWhole_whole _) (Memref.whole main_v1_scv) (Memref.isWhole_whole _)
    (Memref.whole main_arg2_scv) (Memref.isWhole_whole _) (Memref.whole main_arg3_scv) (Memref.isWhole_whole _)
    (Memref.whole main_v2_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    (Memref.whole cc0_scratch11) (Memref.isWhole_whole _) (Memref.whole cc0_scratch12) (Memref.isWhole_whole _)
    (Memref.whole cc0_scratch13) (Memref.isWhole_whole _) (Memref.whole cc0_scratch14) (Memref.isWhole_whole _)
    cc0_scratch15 cc0_scratch16 cc0_scratch17 cc0_scratch18 cc0_scratch19 cc0_scratch20 cc0_scratch21
    cc0_scratch22 cc0_scratch23 cc0_scratch24 cc0_scoped0 cc0_scoped1

/-- One row of the first chunk of a step, at the tile of coordinates `L`. -/
abbrev rowB0 (L : grid0.Coords) :=
  k0_t2_body (F := F) L (Memref.whole main_arg0_scv) (Memref.isWhole_whole _) (Memref.whole main_v1_scv) (Memref.isWhole_whole _)
    (Memref.whole main_arg2_scv) (Memref.isWhole_whole _) (Memref.whole main_arg3_scv) (Memref.isWhole_whole _)
    (Memref.whole main_v2_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    (Memref.whole cc0_scratch11) (Memref.isWhole_whole _) (Memref.whole cc0_scratch12) (Memref.isWhole_whole _)
    (Memref.whole cc0_scratch13) (Memref.isWhole_whole _) (Memref.whole cc0_scratch14) (Memref.isWhole_whole _)
    cc0_scratch15 cc0_scratch16 cc0_scratch17 cc0_scratch18 cc0_scratch19 cc0_scratch20 cc0_scratch21
    cc0_scratch22 cc0_scratch23 cc0_scratch24 cc0_scoped0 cc0_scoped1

/-- One row of the second chunk, at the tile of coordinates `L`. -/
abbrev rowB1 (L : grid0.Coords) :=
  k0_t3_body (F := F) L (Memref.whole main_arg0_scv) (Memref.isWhole_whole _) (Memref.whole main_v1_scv) (Memref.isWhole_whole _)
    (Memref.whole main_arg2_scv) (Memref.isWhole_whole _) (Memref.whole main_arg3_scv) (Memref.isWhole_whole _)
    (Memref.whole main_v2_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    (Memref.whole cc0_scratch11) (Memref.isWhole_whole _) (Memref.whole cc0_scratch12) (Memref.isWhole_whole _)
    (Memref.whole cc0_scratch13) (Memref.isWhole_whole _) (Memref.whole cc0_scratch14) (Memref.isWhole_whole _)
    cc0_scratch15 cc0_scratch16 cc0_scratch17 cc0_scratch18 cc0_scratch19 cc0_scratch20 cc0_scratch21
    cc0_scratch22 cc0_scratch23 cc0_scratch24 cc0_scoped0 cc0_scoped1

/-- One row of the third chunk, at the tile of coordinates `L`. -/
abbrev rowB2 (L : grid0.Coords) :=
  k0_t4_body (F := F) L (Memref.whole main_arg0_scv) (Memref.isWhole_whole _) (Memref.whole main_v1_scv) (Memref.isWhole_whole _)
    (Memref.whole main_arg2_scv) (Memref.isWhole_whole _) (Memref.whole main_arg3_scv) (Memref.isWhole_whole _)
    (Memref.whole main_v2_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    (Memref.whole cc0_scratch11) (Memref.isWhole_whole _) (Memref.whole cc0_scratch12) (Memref.isWhole_whole _)
    (Memref.whole cc0_scratch13) (Memref.isWhole_whole _) (Memref.whole cc0_scratch14) (Memref.isWhole_whole _)
    cc0_scratch15 cc0_scratch16 cc0_scratch17 cc0_scratch18 cc0_scratch19 cc0_scratch20 cc0_scratch21
    cc0_scratch22 cc0_scratch23 cc0_scratch24 cc0_scoped0 cc0_scoped1

/-- One row of the fourth chunk, at the tile of coordinates `L`. -/
abbrev rowB3 (L : grid0.Coords) :=
  k0_t5_body (F := F) L (Memref.whole main_arg0_scv) (Memref.isWhole_whole _) (Memref.whole main_v1_scv) (Memref.isWhole_whole _)
    (Memref.whole main_arg2_scv) (Memref.isWhole_whole _) (Memref.whole main_arg3_scv) (Memref.isWhole_whole _)
    (Memref.whole main_v2_scv) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    (Memref.whole cc0_scratch9) (Memref.isWhole_whole _) (Memref.whole cc0_scratch10) (Memref.isWhole_whole _)
    (Memref.whole cc0_scratch11) (Memref.isWhole_whole _) (Memref.whole cc0_scratch12) (Memref.isWhole_whole _)
    (Memref.whole cc0_scratch13) (Memref.isWhole_whole _) (Memref.whole cc0_scratch14) (Memref.isWhole_whole _)
    cc0_scratch15 cc0_scratch16 cc0_scratch17 cc0_scratch18 cc0_scratch19 cc0_scratch20 cc0_scratch21
    cc0_scratch22 cc0_scratch23 cc0_scratch24 cc0_scoped0 cc0_scoped1

end Cert.Proof.Mix

end
-- ==== Proof.Row.lean ====
/-
  One row of a chunk, as mathematics: the sixty-four sixteen-lane stores of a trip of the inner loop, and what a buffer
  holds after them.
-/
module

public import proofs.«01_k».proof.Proof.Base
public import Idealize.ShloMosaic.Lib.Writes
public import Idealize.ShloMosaic.Lib.Pipeline.Value

@[expose] public section

noncomputable section

namespace Cert.Proof.Mix

open Cert.KernelIdeal Cert.KernelIdeal.Gen
open Idealize.ShloMosaic Idealize.ShloMosaic.Tactic

variable {F : FTy → Type} [FloatOps F]

/-- The component of the sample at row `y 0`, lane `y 2` of a chunk. -/
def cIdx (y : S16x8x128.Idx) : S2048.Idx := fun a =>
  ⟨128 * (y 0).val + (y 2).val, by
    have h0 : (y 0).val < 16 := (y 0).isLt
    have h2 : (y 2).val < 128 := (y 2).isLt
    have ha : a = 0 := Subsingleton.elim _ _
    subst ha
    show _ < 2048
    omega⟩

/-- What the kernel computes at an element of a chunk: the mean (`M`, plus `DM` times the component) plus the noise
    `E` times the scale (`SV`); the three rows by the element's sublane. -/
def mix (M DM SV : ℕ → F .f32) (C : S2048.Idx → Elt F .i32) (E : S16x8x128.Idx → F .f32) (y : S16x8x128.Idx) : F .f32 :=
  FloatOps.addf (FloatOps.addf (M (y 1).val) (FloatOps.mulf (FloatOps.sitofp .f32 (C (cIdx y))) (DM (y 1).val)))
    (FloatOps.mulf (E y) (SV (y 1).val))

/-- The first `n` stores of row `k`, newest first: store number `j` covers sublane `j % 8` and the lane group `j / 8`, and
    agrees there with `G`. -/
inductive RowPieces (k : ℕ) (G : S16x8x128.Idx → F .f32) : ℕ → List (View.Piece (Elt F) S16x8x128 .f32) → Prop
  | nil : RowPieces k G 0 []
  | cons {n : ℕ} {L : List (View.Piece (Elt F) S16x8x128 .f32)} (h : RowPieces k G n L) (off : Fin 3 → ℕ)
      (inb : ∀ a, off a + S1x1x16.size a ≤ S16x8x128.size a)
      (w : (Rect.unit (s := S16x8x128) off S1x1x16.size inb).shape.Idx → Elt F .f32)
      (ho : off = ![k, n % 8, 16 * (n / 8)])
      (hw : ∀ x, w x = G ((Rect.unit (s := S16x8x128) off S1x1x16.size inb).emb x)) :
      RowPieces k G (n + 1) (⟨Rect.unit (s := S16x8x128) off S1x1x16.size inb, w⟩ :: L)

theorem RowPieces.agree {k : ℕ} {G : S16x8x128.Idx → F .f32} {n : ℕ} {L : List (View.Piece (Elt F) S16x8x128 .f32)}
    (h : RowPieces k G n L) : ∀ p ∈ L, ∀ x : p.1.shape.Idx, p.2 x = G (p.1.emb x) := by
  induction h with
  | nil => intro p hp; exact absurd hp List.not_mem_nil
  | cons h off inb w ho hw ih =>
    intro p hp
    rcases List.mem_cons.mp hp with rfl | hp
    · exact hw
    · exact ih p hp

theorem mem_piece {k a b : ℕ} {off : Fin 3 → ℕ} {inb : ∀ a, off a + S1x1x16.size a ≤ S16x8x128.size a} (ho : off = ![k, a, b])
    (y : S16x8x128.Idx) :
    y ∈ (Rect.unit (s := S16x8x128) off S1x1x16.size inb).set
      ↔ (y 0).val = k ∧ (y 1).val = a ∧ b ≤ (y 2).val ∧ (y 2).val < b + 16 := by
  subst ho
  rw [Rect.mem_set_unit]
  have e : (∀ i : Fin 3, ![k, a, b] i ≤ (y i).val ∧ (y i).val < ![k, a, b] i + S1x1x16.size i)
      ↔ (k ≤ (y 0).val ∧ (y 0).val < k + 1) ∧ (a ≤ (y 1).val ∧ (y 1).val < a + 1) ∧ (b ≤ (y 2).val ∧ (y 2).val < b + 16) := by
    rw [Fin.forall_fin_succ, Fin.forall_fin_two]; rfl
  refine e.trans ?_
  omega

theorem RowPieces.cover {k : ℕ} {G : S16x8x128.Idx → F .f32} {n : ℕ} {L : List (View.Piece (Elt F) S16x8x128 .f32)}
    (h : RowPieces k G n L) (y : S16x8x128.Idx) :
    (∃ p ∈ L, y ∈ p.1.set) ↔ (y 0).val = k ∧ (y 1).val + 8 * ((y 2).val / 16) < n := by
  have h1 : (y 1).val < 8 := (y 1).isLt
  induction h with
  | nil => simp
  | cons h off inb w ho hw ih =>
    have e := mem_piece (inb := inb) ho y
    refine (List.exists_mem_cons_iff _ _ _).trans ((or_congr e ih).trans ?_)
    rename_i n _
    have := Nat.div_add_mod n 8
    have := Nat.mod_lt n (show 0 < 8 by decide)
    omega

/-- After a row's sixty-four stores the buffer holds `G` in the row and what it held elsewhere. -/
theorem RowPieces.read {κ : Kind} {sp : Space} (v : View sig κ sp S16x8x128 .f32) (f : v.ty.Contents (Elt F)) {k : ℕ} {G : S16x8x128.Idx → F .f32}
    {L : List (View.Piece (Elt F) S16x8x128 .f32)} (h : RowPieces k G 64 L) (y : S16x8x128.Idx) :
    v.read (Elt F) (v.writes (Elt F) f L) y = if (y 0).val = k then G y else v.read (Elt F) f y := by
  have h1 : (y 1).val < 8 := (y 1).isLt
  have h2 : (y 2).val < 128 := (y 2).isLt
  split
  · next hk => exact View.read_writes_apply_of_pieces v f G L h.agree y ((h.cover y).mpr ⟨hk, by omega⟩)
  · next hk =>
    exact View.read_writes_apply_of_forall_not_mem v f y L fun p hp hy => hk ((h.cover y).mp ⟨p, hp, hy⟩).1

/-- A sixteen-lane group of components read and converted. -/
theorem conv_ok {κ : Kind} {sp : Space} {v : View sig κ sp S2048 .i32} {C : v.ty.Contents (Elt F)} {off : Fin 1 → ℕ} [h : ClosedOff off] {k b : ℕ}
    {inb : ∀ a, off a + S16.size a ≤ S2048.size a} {hs : S16.ShapeCasts S16} (hf : h.form = ![128 * k + b]) (l : S16.Idx) (y : S16x8x128.Idx)
    (h0 : (y 0).val = k) (h2 : (y 2).val = b + (l 0).val) :
    (sitofp .f32 (shapeCast S16 (v.readAt (Elt F) (Rect.unit (s := S2048) off S16.size inb).toLoadRect C : Vec F S16 .i32) hs) : FVec F S16 .f32) l
      = FloatOps.sitofp .f32 (v.read (Elt F) C (cIdx y)) := by
  have hoff : off = ![128 * k + b] := h.eq.trans hf
  subst hoff
  have hc := shapeCast_self (v.readAt (Elt F) (Rect.unit (s := S2048) ![128 * k + b] S16.size inb).toLoadRect C : Vec F S16 .i32) hs
  refine congrArg (FloatOps.sitofp .f32) ((congrFun hc l).trans ?_)
  show v.read (Elt F) C ((Rect.unit (s := S2048) ![128 * k + b] S16.size inb).emb l) = _
  refine congrArg _ (funext fun a => Fin.ext ?_)
  have ha : a = 0 := Subsingleton.elim _ _
  subst ha
  show 128 * k + b + 1 * (l 0).val = 128 * (y 0).val + (y 2).val
  omega

/-- The sixteen lanes of a `1×1×16` vector. -/
theorem cast_1x1x16 {α : Type} (v : S1x1x16.Idx → α) (h : S1x1x16.ShapeCasts S16) (x : S1x1x16.Idx) (l : S16.Idx) (hl : (l 0).val = (x 2).val) :
    shapeCast S16 v h l = v x :=
  shapeCast_apply v h l x (by
    have h0 : (x 0).val < 1 := (x 0).isLt
    have h1 : (x 1).val < 1 := (x 1).isLt
    rw [Shape.rowMajor_val_three, Shape.rowMajor_val_one]
    show ((x 0).val * 1 + (x 1).val) * 16 + (x 2).val = (l 0).val
    omega)
theorem cast_16 {α : Type} (v : S16.Idx → α) (h : S16.ShapeCasts S1x1x16) (x : S1x1x16.Idx) :
    shapeCast S1x1x16 v h x = v (fun a => ⟨(x 2).val, by have ha : a = 0 := Subsingleton.elim _ _; subst ha; exact (x 2).isLt⟩) :=
  shapeCast_apply v h x _ (by
    have h0 : (x 0).val < 1 := (x 0).isLt
    have h1 : (x 1).val < 1 := (x 1).isLt
    rw [Shape.rowMajor_val_three, Shape.rowMajor_val_one]
    show (x 2).val = ((x 0).val * 1 + (x 1).val) * 16 + (x 2).val
    omega)

/-- One more store of the row, its payload the kernel's: mean row plus component times difference row, plus noise times
    scale row. -/
theorem RowPieces.push {κ : Kind} {sp : Space} {ve : View sig κ sp S16x8x128 .f32} {E : ve.ty.Contents (Elt F)}
    {M DM SV : ℕ → F .f32} {C : S2048.Idx → Elt F .i32} {k n : ℕ} {L : List (View.Piece (Elt F) S16x8x128 .f32)}
    {off : Fin 3 → ℕ} [ho : ClosedOff off] {inb inb' : ∀ a, off a + S1x1x16.size a ≤ S16x8x128.size a} {m dm sv : Fin 8 → FVec F S16 .f32} {c : FVec F S16 .f32}
    {h1 : S1x1x16.ShapeCasts S16} {h2 : S16.ShapeCasts S1x1x16}
    (hm : ∀ s l, m s l = M s) (hdm : ∀ s l, dm s l = DM s) (hsv : ∀ s l, sv s l = SV s)
    (h : RowPieces k (mix M DM SV C (ve.read (Elt F) E)) n L) (hof : ho.form = ![k, n % 8, 16 * (n / 8)])
    (hc : ∀ (l : S16.Idx) (y : S16x8x128.Idx), (y 0).val = k → (y 2).val = 16 * (n / 8) + (l 0).val → c l = FloatOps.sitofp .f32 (C (cIdx y))) :
    RowPieces k (mix M DM SV C (ve.read (Elt F) E)) (n + 1)
      (⟨Rect.unit (s := S16x8x128) off S1x1x16.size inb,
        shapeCast S1x1x16 (addf (addf (m ⟨n % 8, Nat.mod_lt _ (by decide)⟩) (mulf c (dm ⟨n % 8, Nat.mod_lt _ (by decide)⟩))) (mulf (shapeCast S16 (ve.readAt (Elt F) (Rect.unit (s := S16x8x128) off S1x1x16.size inb').toLoadRect E : Vec F S1x1x16 .f32) h1) (sv ⟨n % 8, Nat.mod_lt _ (by decide)⟩))) h2⟩ :: L) := by
  have hoff : off = ![k, n % 8, 16 * (n / 8)] := ho.eq.trans hof
  refine RowPieces.cons h off inb _ hoff fun x => ?_
  subst hoff
  refine (cast_16 _ h2 x).trans ?_
  have x0 : (x 0).val < 1 := (x 0).isLt
  have x1 : (x 1).val < 1 := (x 1).isLt
  have x2 : (x 2).val < 16 := (x 2).isLt
  show FloatOps.addf (FloatOps.addf (m _ _) (FloatOps.mulf (c _) (dm _ _))) (FloatOps.mulf (shapeCast S16 _ h1 _) (sv _ _)) = _
  rw [hm, hdm, hsv, hc _ ((Rect.unit (s := S16x8x128) ![k, n % 8, 16 * (n / 8)] S1x1x16.size inb).emb x)
      (by show k + 1 * (x 0).val = k; omega) (by show 16 * (n / 8) + 1 * (x 2).val = 16 * (n / 8) + (x 2).val; omega),
    cast_1x1x16 _ h1 x _ rfl]
  have e1 : (((Rect.unit (s := S16x8x128) ![k, n % 8, 16 * (n / 8)] S1x1x16.size inb).emb x) 1).val = n % 8 := by
    show n % 8 + 1 * (x 1).val = n % 8; omega
  unfold mix
  rw [e1]
  rfl

/-- A row's stores on either of the two output buffers. -/
theorem RowPieces.done13 {k : ℕ} {G fo : S16x8x128.Idx → F .f32} {L : List (View.Piece (Elt F) S16x8x128 .f32)} (h : RowPieces k G 64 L) :
    (Memref.whole cc0_scratch13).view.writes (Elt F) fo L = fun y => if (y 0).val = k then G y else fo y :=
  funext fun y => h.read (Memref.whole cc0_scratch13).view fo y
theorem RowPieces.done14 {k : ℕ} {G fo : S16x8x128.Idx → F .f32} {L : List (View.Piece (Elt F) S16x8x128 .f32)} (h : RowPieces k G 64 L) :
    (Memref.whole cc0_scratch14).view.writes (Elt F) fo L = fun y => if (y 0).val = k then G y else fo y :=
  funext fun y => h.read (Memref.whole cc0_scratch14).view fo y

end Cert.Proof.Mix

end
-- ==== Proof.Chunks.lean ====
/-
  The chunks of a tile: which part of the indicator vector, of the noise and of the output chunk `n` of a tile is, that
  the addresses the kernel computes are those, and what each array holds on a chunk.
-/
module

public import proofs.«01_k».proof.Proof.Row

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Numbers of a tile -/

/-- The tile's number, in the order the kernel counts them. -/
def wid (L : grid0.Coords) : ℕ := 2 * (L 1).val + (L 0).val
/-- The row of tiles (eight features) the tile works on. -/
def trow (L : grid0.Coords) : ℕ := wid L / 4
/-- The first block of 128 samples it works on. -/
def tcol (L : grid0.Coords) : ℕ := (wid L % 4) * 2048

theorem wid_lt (L : grid0.Coords) : wid L < 32 := by
  have h0 : (L 0).val < 2 := (L 0).isLt
  have h1 : (L 1).val < 16 := (L 1).isLt
  unfold wid; omega
theorem trow_lt (L : grid0.Coords) : trow L < 8 := by have := wid_lt L; unfold trow; omega
theorem tcol_le (L : grid0.Coords) : tcol L ≤ 6144 := by unfold tcol; omega

/-- Where chunk `n` starts in the indicator vector. -/
def cOff (L : grid0.Coords) (n : Fin 128) : Fin 1 → ℕ := ![(tcol L + 16 * n.val) * 128]
/-- Where chunk `n` starts in the noise and in the output. -/
def eOff (L : grid0.Coords) (n : Fin 128) : Fin 4 → ℕ := ![trow L, tcol L + 16 * n.val, 0, 0]

theorem cOff_inb (L : grid0.Coords) (n : Fin 128) : ∀ a, cOff L n a + S2048.size a ≤ S1048576.size a := by
  intro a
  have h := tcol_le L; have hn := n.isLt
  match a with
  | ⟨0, _⟩ => show (tcol L + 16 * n.val) * 128 + 2048 ≤ 1048576; omega
theorem eOff_inb (L : grid0.Coords) (n : Fin 128) : ∀ a, eOff L n a + S1x16x8x128.size a ≤ S8x8192x8x128.size a := by
  intro a
  have h := tcol_le L; have hn := n.isLt; have hr := trow_lt L
  match a with
  | ⟨0, _⟩ => show trow L + 1 ≤ 8; omega
  | ⟨1, _⟩ => show tcol L + 16 * n.val + 16 ≤ 8192; omega
  | ⟨2, _⟩ => show 0 + 8 ≤ 8; omega
  | ⟨3, _⟩ => show 0 + 128 ≤ 128; omega

/-! ## The slices -/

/-- A window of the indicator vector; of the noise; of the output. -/
abbrev cWin (off : Fin 1 → ℕ) (h : ∀ a, off a + S2048.size a ≤ S1048576.size a) : Memref sig .scVector .hbm S2048 .i32 :=
  (Memref.whole main_arg0_scv).slice (Rect.unit (s := S1048576) off S2048.size h) (fun _ => rfl)
abbrev eWin (off : Fin 4 → ℕ) (h : ∀ a, off a + S1x16x8x128.size a ≤ S8x8192x8x128.size a) : Memref sig .scVector .hbm S16x8x128 .f32 :=
  ((Memref.whole main_v1_scv).slice (Rect.unit (s := S8x8192x8x128) off S1x16x8x128.size h) (fun _ => rfl)).squeeze S16x8x128
    squeezes_S1x16x8x128_S16x8x128
abbrev oWin (off : Fin 4 → ℕ) (h : ∀ a, off a + S1x16x8x128.size a ≤ S8x8192x8x128.size a) : Memref sig .scVector .hbm S16x8x128 .f32 :=
  ((Memref.whole main_v2_scv).slice (Rect.unit (s := S8x8192x8x128) off S1x16x8x128.size h) (fun _ => rfl)).squeeze S16x8x128
    squeezes_S1x16x8x128_S16x8x128

theorem cWin_eq {off off' : Fin 1 → ℕ} (h) (h') (e : off = off') : cWin off h = cWin off' h' := by subst e; rfl
theorem eWin_eq {off off' : Fin 4 → ℕ} (h) (h') (e : off = off') : eWin off h = eWin off' h' := by subst e; rfl
theorem oWin_eq {off off' : Fin 4 → ℕ} (h) (h') (e : off = off') : oWin off h = oWin off' h' := by subst e; rfl

/-- Chunk `n`'s own. -/
abbrev cSl (L : grid0.Coords) (n : Fin 128) := cWin (cOff L n) (cOff_inb L n)
abbrev eSl (L : grid0.Coords) (n : Fin 128) := eWin (eOff L n) (eOff_inb L n)
abbrev oSl (L : grid0.Coords) (n : Fin 128) := oWin (eOff L n) (eOff_inb L n)

/-! ## The addresses the kernel computes -/

theorem trips1 : k0_t1_loop.trips = 32 := rfl

theorem off3_eq : ∀ (L : grid0.Coords) (r : Fin 4), k0_off3 L (BitVec.ofNat 32 (16 * r.val)) = cOff L ⟨r.val, by omega⟩ := by decide +kernel
theorem off4_eq : ∀ (L : grid0.Coords) (r : Fin 4), k0_off4 L (BitVec.ofNat 32 (16 * r.val)) = eOff L ⟨r.val, by omega⟩ := by decide +kernel
theorem off4_eq126 : ∀ (L : grid0.Coords), k0_off4 L 2016#32 = eOff L 126 := by decide +kernel
theorem off4_eq127 : ∀ (L : grid0.Coords), k0_off4 L 2032#32 = eOff L 127 := by decide +kernel
theorem ch_lt (t : Fin k0_t1_loop.trips) (r : Fin 4) : 4 * t.val + r.val < 128 := by have h : t.val < 32 := t.isLt; omega
theorem off5_eq : ∀ (L : grid0.Coords) (t : Fin k0_t1_loop.trips) (r : Fin 4),
    k0_off5 L t (BitVec.ofNat 32 r.val) = cOff L ⟨4 * t.val + r.val, ch_lt t r⟩ := by decide +kernel
theorem off6_eq : ∀ (L : grid0.Coords) (t : Fin k0_t1_loop.trips) (r : Fin 4),
    k0_off6 L t (BitVec.ofNat 32 r.val) = eOff L ⟨4 * t.val + r.val, ch_lt t r⟩ := by decide +kernel

theorem cond1_iff : ∀ t : Fin k0_t1_loop.trips, k0_cond1 t = 1#1 ↔ 0 < t.val := by decide +kernel
theorem cond3_iff : ∀ t : Fin k0_t1_loop.trips, k0_cond3 t = 1#1 ↔ 0 < t.val := by decide +kernel
theorem cond2_iff : ∀ t : Fin k0_t1_loop.trips, k0_cond2 t = 1#1 ↔ t.val + 1 < 32 := by decide +kernel
theorem cond4_iff : ∀ t : Fin k0_t1_loop.trips, k0_cond4 t = 1#1 ↔ t.val + 1 < 32 := by decide +kernel
theorem cond5_iff : ∀ t : Fin k0_t1_loop.trips, k0_cond5 t = 1#1 ↔ t.val + 1 < 32 := by decide +kernel
theorem cond6_iff : ∀ t : Fin k0_t1_loop.trips, k0_cond6 t = 1#1 ↔ t.val + 1 < 32 := by decide +kernel

theorem off73_eq : ∀ (L : grid0.Coords) (t : Fin k0_t1_loop.trips) (h : t.val + 1 < 32), k0_off73 L t = cOff L ⟨4 * (t.val + 1) + 0, by omega⟩ := by decide +kernel
theorem off141_eq : ∀ (L : grid0.Coords) (t : Fin k0_t1_loop.trips) (h : t.val + 1 < 32), k0_off141 L t = cOff L ⟨4 * (t.val + 1) + 1, by omega⟩ := by decide +kernel
theorem off209_eq : ∀ (L : grid0.Coords) (t : Fin k0_t1_loop.trips) (h : t.val + 1 < 32), k0_off209 L t = cOff L ⟨4 * (t.val + 1) + 2, by omega⟩ := by decide +kernel
theorem off276_eq : ∀ (L : grid0.Coords) (t : Fin k0_t1_loop.trips) (h : t.val + 1 < 32), k0_off276 L t = cOff L ⟨4 * (t.val + 1) + 3, by omega⟩ := by decide +kernel
theorem off74_eq : ∀ (L : grid0.Coords) (t : Fin k0_t1_loop.trips) (h : t.val + 1 < 32), k0_off74 L t = eOff L ⟨4 * (t.val + 1) + 0, by omega⟩ := by decide +kernel
theorem off142_eq : ∀ (L : grid0.Coords) (t : Fin k0_t1_loop.trips) (h : t.val + 1 < 32), k0_off142 L t = eOff L ⟨4 * (t.val + 1) + 1, by omega⟩ := by decide +kernel
theorem off210_eq : ∀ (L : grid0.Coords) (t : Fin k0_t1_loop.trips) (h : t.val + 1 < 32), k0_off210 L t = eOff L ⟨4 * (t.val + 1) + 2, by omega⟩ := by decide +kernel
theorem off277_eq : ∀ (L : grid0.Coords) (t : Fin k0_t1_loop.trips) (h : t.val + 1 < 32), k0_off277 L t = eOff L ⟨4 * (t.val + 1) + 3, by omega⟩ := by decide +kernel

/-! ## What the arrays hold on a chunk -/

section Own
variable (d : Dev nD) (L : grid0.Coords)

/-- A share of the indicators of chunk `n`; of its noise; of its output. -/
abbrev cCh (q : PosShare TreeShare) (C : Buf (Elt F) ((tV d L).loc main_arg0_scv)) (n : Fin 128) : sProp 𝕄 :=
  (cSl L n).view.loc (tV d L) ↦[(cSl L n).view.set]{q} C
abbrev eCh (E : Buf (Elt F) ((tV d L).loc main_v1_scv)) (n : Fin 128) : sProp 𝕄 :=
  (eSl L n).view.loc (tV d L) ↦[(eSl L n).view.set]{fullShare} E
abbrev oCh (G : Buf (Elt F) ((tV d L).loc main_v2_scv)) (n : Fin 128) : sProp 𝕄 :=
  (oSl L n).view.loc (tV d L) ↦[(oSl L n).view.set]{fullShare} G

end Own

/-- The chunks from `n` on, and those below `n`. -/
def fromC (n : ℕ) : Finset (Fin 128) := Finset.univ.filter fun i : Fin 128 => n ≤ i.val
def belowC (n : ℕ) : Finset (Fin 128) := Finset.univ.filter fun i : Fin 128 => i.val < n

theorem fromC_zero : fromC 0 = Finset.univ := Finset.filter_eq_self.mpr fun i _ => Nat.zero_le i.val
theorem belowC_zero : belowC 0 = ∅ := Finset.filter_eq_empty_iff.mpr fun i _ h => absurd h (Nat.not_lt_zero i.val)
theorem fromC_top {n : ℕ} (h : 128 ≤ n) : fromC n = ∅ :=
  Finset.filter_eq_empty_iff.mpr fun i _ h' => absurd (lt_of_lt_of_le i.isLt h) (Nat.not_lt.mpr h')
theorem belowC_top : belowC 128 = Finset.univ := Finset.filter_eq_self.mpr fun i _ => i.isLt
theorem fromC_succ (n : ℕ) (h : n < 128) (Φ : Fin 128 → sProp 𝕄) :
    bigSep (fromC n) Φ = iprop(Φ ⟨n, h⟩ ∗ bigSep (fromC (n + 1)) Φ) := by
  have e : fromC n = insert ⟨n, h⟩ (fromC (n + 1)) := by
    ext i; simp only [fromC, Finset.mem_filter, Finset.mem_univ, true_and, Finset.mem_insert, Fin.ext_iff]; omega
  rw [e, SparseCore.bigSep_insert' (by simp only [fromC, Finset.mem_filter, Finset.mem_univ, true_and]; omega)]
theorem belowC_succ (n : ℕ) (h : n < 128) (Φ : Fin 128 → sProp 𝕄) :
    bigSep (belowC (n + 1)) Φ = iprop(Φ ⟨n, h⟩ ∗ bigSep (belowC n) Φ) := by
  have e : belowC (n + 1) = insert ⟨n, h⟩ (belowC n) := by
    ext i; simp only [belowC, Finset.mem_filter, Finset.mem_univ, true_and, Finset.mem_insert, Fin.ext_iff]; omega
  rw [e, SparseCore.bigSep_insert' (by simp only [belowC, Finset.mem_filter, Finset.mem_univ, true_and]; omega)]

end Cert.Proof.Mix

end
-- ==== Proof.Ring.lean ====
/-
  The rings of a tile: what a slot of an input buffer, of an output buffer holds before a chunk, the guarded starts of the
  next chunks' copies and the guarded waits for the last chunks' write-backs.
-/
module

public import proofs.«01_k».proof.Proof.Chunks

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The counters of a tile's own transfers. -/
abbrev EC : UEmb Counters (MT nD τ sig (HIx 1) (Elt F) ℕ UU ℕ) := countersEmb (U := UU)

section Slots
variable (d : Dev nD) (L : grid0.Coords) (O : CellTallies nD τ sig (HIx 1)) (W : Waits sig (HIx 1))

/-- A tile's buffer, named by the memref the kernel passes, whole, holding `f`. -/
abbrev memAt {s : Shape} {e : EltTy} (m : Memref sig .scVector .vmem s e) (f : Buf (Elt F) (m.view.loc (tV d L))) : sProp 𝕄 :=
  m.view.loc (tV d L) ↦{fullShare} f

/-- The waits recorded so far. -/
abbrev owing : sProp 𝕄 := iprop(∃ W', ⌜∀ p ∈ W', p ∈ W ∨ p.2 = none⌝ ∗ owes (tV d L) O W')

/-- A slot free: its semaphore at zero, its buffer at some contents. -/
abbrev freeSlot {s : Shape} {e : EltTy} (sem : DmaSem sig) (m : Memref sig .scVector .vmem s e) : sProp 𝕄 :=
  iprop(semVal (tV d L, SemLoc.dma sem) 0 ∗ ∃ f, memAt d L m f)

/-- The copy of something into a buffer, in flight: the buffer at `f` once it lands, and the copied part `X` back. -/
abbrev inFlight {s : Shape} {e : EltTy} (sem : DmaSem sig) (m : Memref sig .scVector .vmem s e)
    (f : Buf (Elt F) (m.view.loc (tV d L))) (X : sProp 𝕄) : sProp 𝕄 :=
  Transfers.Flight EC (tV d L) (.dma sem) (default : HIx 1) (m.view.amount (.dma sem)) iprop(memAt d L m f ∗ X)

/-- An input slot at chunk `n`: the chunk's copy in flight, or, past the last chunk, the slot free. -/
def inSlot {s : Shape} {e : EltTy} (sem : DmaSem sig) (m : Memref sig .scVector .vmem s e)
    (f : Fin 128 → Buf (Elt F) (m.view.loc (tV d L))) (X : Fin 128 → sProp 𝕄) (n : ℕ) : sProp 𝕄 :=
  if h : n < 128 then inFlight d L sem m (f ⟨n, h⟩) (X ⟨n, h⟩) else freeSlot d L sem m

/-- The write-back of an output buffer to a chunk, in flight. -/
abbrev outFlight (sem : DmaSem sig) (m : Memref sig .scVector .vmem S16x8x128 .f32)
    (G : Buf (Elt F) ((tV d L).loc main_v2_scv)) (n : Fin 128) : sProp 𝕄 :=
  Transfers.Flight EC (tV d L) (.dma sem) (default : HIx 1) ((oSl L n).view.amount (.dma sem)) iprop(oCh d L G n ∗ ∃ f, memAt d L m f)

/-- An output slot before chunk `n`: the write-back of the chunk two before it in flight, if there is one. -/
def outSlot (sem : DmaSem sig) (m : Memref sig .scVector .vmem S16x8x128 .f32)
    (G : Buf (Elt F) ((tV d L).loc main_v2_scv)) (n : ℕ) : sProp 𝕄 :=
  if h : 2 ≤ n ∧ n - 2 < 128 then outFlight d L sem m G ⟨n - 2, h.2⟩ else freeSlot d L sem m

theorem inSlot_lt {s : Shape} {e : EltTy} (sem : DmaSem sig) (m : Memref sig .scVector .vmem s e)
    (f : Fin 128 → Buf (Elt F) (m.view.loc (tV d L))) (X : Fin 128 → sProp 𝕄) (n : ℕ) (h : n < 128) :
    inSlot d L sem m f X n = inFlight d L sem m (f ⟨n, h⟩) (X ⟨n, h⟩) := dif_pos h
theorem inSlot_ge {s : Shape} {e : EltTy} (sem : DmaSem sig) (m : Memref sig .scVector .vmem s e)
    (f : Fin 128 → Buf (Elt F) (m.view.loc (tV d L))) (X : Fin 128 → sProp 𝕄) (n : ℕ) (h : ¬ n < 128) :
    inSlot d L sem m f X n = freeSlot d L sem m := dif_neg h
theorem outSlot_succ (sem : DmaSem sig) (m : Memref sig .scVector .vmem S16x8x128 .f32)
    (G : Buf (Elt F) ((tV d L).loc main_v2_scv)) (n : Fin 128) :
    outSlot d L sem m G (n.val + 2) = outFlight d L sem m G n := dif_pos ⟨Nat.le_add_left 2 n.val, n.isLt⟩
theorem outSlot_lt (sem : DmaSem sig) (m : Memref sig .scVector .vmem S16x8x128 .f32)
    (G : Buf (Elt F) ((tV d L).loc main_v2_scv)) (n : ℕ) (h : n < 2) :
    outSlot d L sem m G n = freeSlot d L sem m := dif_neg fun h' => absurd h'.1 (Nat.not_le.mpr h)

/-! ## A window of an array at a computed address -/

theorem cWin_pts (q : PosShare TreeShare) (C : Buf (Elt F) ((tV d L).loc main_arg0_scv)) (n : Fin 128) (off : Fin 1 → ℕ)
    (h : ∀ a, off a + S2048.size a ≤ S1048576.size a) (e : off = cOff L n) :
    ((cWin off h).view.loc (tV d L) ↦[(cWin off h).view.set]{q} C : sProp 𝕄) = cCh d L q C n := by subst e; rfl
theorem eWin_pts (E : Buf (Elt F) ((tV d L).loc main_v1_scv)) (n : Fin 128) (off : Fin 4 → ℕ)
    (h : ∀ a, off a + S1x16x8x128.size a ≤ S8x8192x8x128.size a) (e : off = eOff L n) :
    ((eWin off h).view.loc (tV d L) ↦[(eWin off h).view.set]{fullShare} E : sProp 𝕄) = eCh d L E n := by subst e; rfl
theorem oWin_pts (G : Buf (Elt F) ((tV d L).loc main_v2_scv)) (n : Fin 128) (off : Fin 4 → ℕ)
    (h : ∀ a, off a + S1x16x8x128.size a ≤ S8x8192x8x128.size a) (e : off = eOff L n) :
    ((oWin off h).view.loc (tV d L) ↦[(oWin off h).view.set]{fullShare} G : sProp 𝕄) = oCh d L G n := by subst e; rfl

/-- Chunk `n` of the indicators; of the noise. -/
abbrev cVal (C : Buf (Elt F) ((tV d L).loc main_arg0_scv)) (n : Fin 128) : S2048.Idx → Elt F .i32 := (cSl L n).view.read (Elt F) C
abbrev eVal (E : Buf (Elt F) ((tV d L).loc main_v1_scv)) (n : Fin 128) : S16x8x128.Idx → Elt F .f32 := (eSl L n).view.read (Elt F) E

theorem cWin_read (C : Buf (Elt F) ((tV d L).loc main_arg0_scv)) (n : Fin 128) (off : Fin 1 → ℕ)
    (h : ∀ a, off a + S2048.size a ≤ S1048576.size a) (e : off = cOff L n) :
    (cWin off h).view.read (Elt F) C = cVal d L C n := by subst e; rfl
theorem eWin_read (E : Buf (Elt F) ((tV d L).loc main_v1_scv)) (n : Fin 128) (off : Fin 4 → ℕ)
    (h : ∀ a, off a + S1x16x8x128.size a ≤ S8x8192x8x128.size a) (e : off = eOff L n) :
    (eWin off h).view.read (Elt F) E = eVal d L E n := by subst e; rfl

/-! ## The starts and the waits -/

section Run
variable {α : Type} {Q : α → sProp (MT nD τ sig (HIx 1) (Elt F) ℕ UU ℕ)}

/-- The start of a copy into a free slot. -/
theorem wp_start {s : Shape} {e : EltTy} {sp : Space} (src : Memref sig .scVector sp s e) (m : Memref sig .scVector .vmem s e) (sem : DmaSem sig)
    (q : PosShare TreeShare) (fs : Buf (Elt F) (src.view.loc (tV d L))) (f : Buf (Elt F) (m.view.loc (tV d L))) (X : sProp 𝕄)
    (hX : (src.view.loc (tV d L) ↦[src.view.set]{q} fs : sProp 𝕄) = X)
    (hf : ∀ fd, m.view.write (Elt F) fd (src.view.read (Elt F) fs) Finset.univ = f) (hpos : 0 < s.numel)
    {hsrc : src.view.WordExact} {hdst : m.view.WordExact} {hsem : DmaTarget.Typed (nD := nD) sp (.dma sem) (DmaTarget.here (p := (tV d L).2) m)}
    {k : PUnit → Prog (TpuEff nD τ sig (Elt F) Λ₀ (tV d L).2) α} :
    iprop(freeSlot d L sem m ∗ X)
      ⊢ iprop((inFlight d L sem m f X -∗ wp frame (wpE (defs₀ (F := F)) 𝒱₀ (tV d L) none) Set.univ (k ⟨⟩) Q)
          -∗ wp frame (wpE (defs₀ (F := F)) 𝒱₀ (tV d L) none) Set.univ (.op (.enqueueDma src (.here m) (.dma sem) hsrc hdst hsem) k) Q) := by
  subst hX
  iintro ⟨⟨Hz, ⟨%fd, Hb⟩⟩, Hs⟩ Hk
  iapply (Transfers.wp_dmaLocal (c := tV d L) EC 𝒱₀ none (default : HIx 1) _ rfl (View.amount_pos _ _ hpos) (Finset.subset_univ _) (fs := fs) (fd := fd)) $$ [Hz Hb Hs]
  · isplitl [Hs]; · iexact Hs
    isplitl [Hb]; · iexact Hb
    iexact Hz
  iintro Hf
  iapply Hk
  iapply (Transfers.Flight_mono EC (tV d L) ?mono) $$ Hf
  case mono => rw [← hf fd]

/-- What the start of a transfer to a chunk of the output owes: a buffer holding the chunk's final contents. -/
theorem wp_back (m : Memref sig .scVector .vmem S16x8x128 .f32) (sem : DmaSem sig) (n : Fin 128) (off : Fin 4 → ℕ)
    (hoff : ∀ a, off a + S1x16x8x128.size a ≤ S8x8192x8x128.size a) (e : off = eOff L n) (hm : m.view.set = Finset.univ)
    (f : Buf (Elt F) (m.view.loc (tV d L))) (fo G : Buf (Elt F) ((tV d L).loc main_v2_scv))
    (hf : (oSl L n).view.read (Elt F) G = m.view.read (Elt F) f)
    {hsrc : m.view.WordExact} {hdst : (oWin off hoff).view.WordExact}
    {hsem : DmaTarget.Typed (nD := nD) .vmem (.dma sem) (DmaTarget.here (p := (tV d L).2) (oWin off hoff))}
    {k : PUnit → Prog (TpuEff nD τ sig (Elt F) Λ₀ (tV d L).2) α} :
    iprop(semVal (tV d L, SemLoc.dma sem) 0 ∗ memAt d L m f ∗ oCh d L fo n)
      ⊢ iprop((outSlot d L sem m G (n.val + 2) -∗ wp frame (wpE (defs₀ (F := F)) 𝒱₀ (tV d L) none) Set.univ (k ⟨⟩) Q)
          -∗ wp frame (wpE (defs₀ (F := F)) 𝒱₀ (tV d L) none) Set.univ (.op (.enqueueDma m (.here (oWin off hoff)) (.dma sem) hsrc hdst hsem) k) Q) := by
  subst e
  rw [outSlot_succ]
  iintro ⟨Hz, Hb, Ho⟩ Hk
  iapply (Transfers.wp_dmaLocal (c := tV d L) (src := m) (dst := oSl L n) EC 𝒱₀ none (default : HIx 1) _ rfl (View.amount_pos _ _ (show 0 < S16x8x128.numel by decide)) (Finset.Subset.refl _) (fs := f) (fd := fo)) $$ [Hz Hb Ho]
  · isplitl [Hb]; · rw [hm]; iexact Hb
    isplitl [Ho]; · iexact Ho
    iexact Hz
  iintro Hf
  iapply Hk
  iapply (Transfers.Flight_mono EC (tV d L) ?mono) $$ Hf
  case mono =>
    rw [hm]
    iintro ⟨Ho, Hb⟩
    isplitl [Ho]
    · iapply (Entails.of_eq (pointsTo_congr ?back)) $$ Ho
      case back =>
        intro i hi
        refine (congrFun (congrArg (fun w => (oSl L n).view.write (Elt F) fo w Finset.univ) hf.symm) i).trans ?_
        rw [View.write_read_eq_piecewise]
        exact Finset.piecewise_eq_of_mem _ _ _ hi
    iexists _; iexact Hb

/-- The guarded starts of the copies of chunk `n` into a pair of slots just freed. -/
theorem startNext {P : Prop} [Decidable P] (n : ℕ) (hP : P ↔ n < 128) (q : PosShare TreeShare)
    (C : Buf (Elt F) ((tV d L).loc main_arg0_scv)) (E : Buf (Elt F) ((tV d L).loc main_v1_scv))
    (mc : Memref sig .scVector .vmem S2048 .i32) (sc : DmaSem sig) (fc : Fin 128 → Buf (Elt F) (mc.view.loc (tV d L)))
    (hfc : ∀ i fd, mc.view.write (Elt F) fd (cVal d L C i) Finset.univ = fc i)
    (me : Memref sig .scVector .vmem S16x8x128 .f32) (se : DmaSem sig) (fe : Fin 128 → Buf (Elt F) (me.view.loc (tV d L)))
    (hfe : ∀ i fd, me.view.write (Elt F) fd (eVal d L E i) Finset.univ = fe i)
    (offc : Fin 1 → ℕ) (hc : P → ∀ a, offc a + S2048.size a ≤ S1048576.size a) (ec : ∀ h : n < 128, offc = cOff L ⟨n, h⟩)
    (offe : Fin 4 → ℕ) (he : P → ∀ a, offe a + S1x16x8x128.size a ≤ S8x8192x8x128.size a) (ee : ∀ h : n < 128, offe = eOff L ⟨n, h⟩)
    {w₁ : ∀ h : P, (cWin offc (hc h)).view.WordExact} {w₂ : P → mc.view.WordExact}
    {w₃ : P → DmaTarget.Typed (nD := nD) .hbm (.dma sc) (DmaTarget.here (p := (tV d L).2) mc)}
    {w₄ : ∀ h : P, (eWin offe (he h)).view.WordExact} {w₅ : P → me.view.WordExact}
    {w₆ : P → DmaTarget.Typed (nD := nD) .hbm (.dma se) (DmaTarget.here (p := (tV d L).2) me)} :
    iprop(freeSlot d L sc mc ∗ freeSlot d L se me ∗ bigSep (fromC n) (cCh d L q C) ∗ bigSep (fromC n) (eCh d L E))
      ⊢ wp frame (wpE (defs₀ (F := F)) 𝒱₀ (tV d L) none) Set.univ
          (if h : P then do
            Prog.lift (.enqueueDma (cWin offc (hc h)) (.here mc) (.dma sc) (w₁ h) (w₂ h) (w₃ h))
            Prog.lift (.enqueueDma (eWin offe (he h)) (.here me) (.dma se) (w₄ h) (w₅ h) (w₆ h))
          else pure ⟨⟩ : Prog (TpuEff nD τ sig (Elt F) Λ₀ (tV d L).2) PUnit)
          fun _ => iprop(inSlot d L sc mc fc (cCh d L q C) n ∗ inSlot d L se me fe (eCh d L E) n
            ∗ bigSep (fromC (n + 1)) (cCh d L q C) ∗ bigSep (fromC (n + 1)) (eCh d L E)) := by
  by_cases h : P
  · have hn : n < 128 := hP.mp h
    rw [dif_pos h, inSlot_lt _ _ _ _ _ _ _ hn, inSlot_lt _ _ _ _ _ _ _ hn, fromC_succ n hn, fromC_succ n hn]
    simp only [Prog.lift, Prog.bind_op, Prog.bind_ret, Prog.pure_eq_ret]
    iintro ⟨Hc, He, ⟨Hcn, HC⟩, Hen, HE⟩
    iapply (wp_start d L (cWin offc (hc h)) mc sc q C (fc ⟨n, hn⟩) _ (cWin_pts d L q C ⟨n, hn⟩ offc (hc h) (ec hn))
      (fun fd => by rw [cWin_read d L C ⟨n, hn⟩ offc (hc h) (ec hn)]; exact hfc _ fd) (by decide)) $$ [Hc Hcn]
    · isplitl [Hc] <;> iassumption
    iintro Hc
    iapply (wp_start d L (eWin offe (he h)) me se fullShare E (fe ⟨n, hn⟩) _ (eWin_pts d L E ⟨n, hn⟩ offe (he h) (ee hn))
      (fun fd => by rw [eWin_read d L E ⟨n, hn⟩ offe (he h) (ee hn)]; exact hfe _ fd) (by decide)) $$ [He Hen]
    · isplitl [He] <;> iassumption
    iintro He
    rw [wp_ret]; imodintro
    isplitl [Hc]; · iexact Hc
    isplitl [He]; · iexact He
    isplitl [HC] <;> iassumption
  · have hn : ¬ n < 128 := fun h' => h (hP.mpr h')
    rw [dif_neg h, inSlot_ge _ _ _ _ _ _ _ hn, inSlot_ge _ _ _ _ _ _ _ hn, fromC_top (n := n) (by omega), fromC_top (n := n + 1) (by omega)]
    simp only [Prog.pure_eq_ret]
    iintro ⟨Hc, He, HC, HE⟩
    rw [wp_ret]; imodintro
    isplitl [Hc]; · iexact Hc
    isplitl [He]; · iexact He
    isplitl [HC] <;> iassumption

/-- The guarded wait, before chunk `n` is written into an output buffer, for the write-back of the chunk two before it. -/
theorem waitBack {P : Prop} [Decidable P] (n : ℕ) (hP : P ↔ 2 ≤ n) (hn : n < 130)
    (m : Memref sig .scVector .vmem S16x8x128 .f32) (sem : DmaSem sig) (G : Buf (Elt F) ((tV d L).loc main_v2_scv))
    (off : Fin 4 → ℕ) (ho : P → ∀ a, off a + S1x16x8x128.size a ≤ S8x8192x8x128.size a)
    {w₁ : P → m.view.WordExact} {w₂ : ∀ h : P, (oWin off (ho h)).view.WordExact} :
    iprop(Transfers.MayWaits (tV d L) (default : HIx 1) O ∗ owing d L O W ∗ outSlot d L sem m G n ∗ bigSep (belowC (n - 2)) (oCh d L G))
      ⊢ wp frame (wpE (defs₀ (F := F)) 𝒱₀ (tV d L) none) Set.univ
          (if h : P then
            Prog.lift (.waitDma2 sem m (oWin off (ho h)) (w₁ h) (w₂ h))
          else pure ⟨⟩ : Prog (TpuEff nD τ sig (Elt F) Λ₀ (tV d L).2) PUnit)
          fun _ => iprop(owing d L O W ∗ freeSlot d L sem m ∗ bigSep (belowC (n - 1)) (oCh d L G)) := by
  by_cases h : P
  · have h2 : 2 ≤ n := hP.mp h
    have e : outSlot d L sem m G n = outFlight d L sem m G ⟨n - 2, by omega⟩ := dif_pos ⟨h2, by omega⟩
    rw [dif_pos h, e, show n - 1 = (n - 2) + 1 by omega, belowC_succ (n - 2) (by omega)]
    simp only [Prog.lift]
    iintro ⟨#Hmw, ⟨%W', %hW', HO⟩, Hs, HG⟩
    iapply (Transfers.wp_waitLocalO EC 𝒱₀ (tV d L) none (default : HIx 1) rfl) $$ [Hs HO]
    · isplitl [Hs]; · iexact Hs
      isplitl [HO]; · iexact HO
      iapply (Transfers.MayWaits.elim (SemLoc.dma sem)) $$ Hmw
    iintro ⟨⟨Ho, Hm⟩, Hz, HO⟩
    rw [wp_ret]; imodintro
    isplitl [HO]
    · iexists _; isplitr; swap; · iexact HO
      ipureintro
      intro p hp
      rcases Finset.mem_insert.mp hp with rfl | hp
      · exact Or.inr rfl
      · exact hW' p hp
    isplitl [Hz Hm]
    · isplitl [Hz] <;> iassumption
    isplitl [Ho] <;> iassumption
  · have h2 : n < 2 := by by_contra h'; exact h (hP.mpr (by omega))
    rw [dif_neg h, outSlot_lt _ _ _ _ _ _ h2, show n - 1 = n - 2 by omega]
    simp only [Prog.pure_eq_ret]
    iintro ⟨#Hmw, ⟨%W', %hW', HO⟩, Hs, HG⟩
    rw [wp_ret]; imodintro
    isplitl [HO]
    · iexists _; isplitr; swap; · iexact HO
      ipureintro; exact hW'
    isplitl [Hs] <;> iassumption

end Run

end Slots

end Cert.Proof.Mix

end
-- ==== Proof.Inner.lean ====
/-
  One row of a chunk, run: each of the four printed inner loops (one per input buffer) at one trip.
-/
module

public import proofs.«01_k».proof.Proof.Row

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Row `k` of a chunk in buffer 0: the output buffer at `mix` in the row, unchanged elsewhere. -/
theorem row0 (v29 : BitVec 32) (k0_t1 : Fin k0_t1_loop.trips) (arg32 : BitVec 32) (v360 : BitVec 32) (v375 v378 v381 v384 v387 v390 v393 v396 v399 v402 v405 v408 v411 v414 v417 v420 v423 v426 : FVec F S16 .f32)
    (v428 v431 v434 v437 v440 v443 : Vec F S1x16 .f32) (M DM SV : ℕ → F .f32)
    (hm : ∀ (s : Fin 8) (l : S16.Idx), (![v375, v378, v381, v384, v387, v390, v393, v396] : Fin 8 → FVec F S16 .f32) s l = M s)
    (hd : ∀ (s : Fin 8) (l : S16.Idx), (![v399, v402, v405, v408, v411, v414, v417, v420] : Fin 8 → FVec F S16 .f32) s l = DM s)
    (hs : ∀ (s : Fin 8) (l : S16.Idx), (![v423, v426, shapeCast S16 v428 shapeCasts_S1x16_S16, shapeCast S16 v431 shapeCasts_S1x16_S16, shapeCast S16 v434 shapeCasts_S1x16_S16, shapeCast S16 v437 shapeCasts_S1x16_S16, shapeCast S16 v440 shapeCasts_S1x16_S16, shapeCast S16 v443 shapeCasts_S1x16_S16] : Fin 8 → FVec F S16 .f32) s l = SV s)
    (k : Fin k0_t2_loop.trips) (a : BitVec 32) (fc : Buf (Elt F) ((tV d L).loc cc0_scratch5)) (fe : Buf (Elt F) ((tV d L).loc cc0_scratch9))
    (fo : Buf (Elt F) ((tV d L).loc cc0_scratch13)) :
    iprop(bufAt d L cc0_scratch5 fc ∗ bufAt d L cc0_scratch9 fe ∗ bufAt d L cc0_scratch13 fo : sProp 𝕄)
      ⊢ wp frame (wpE (defs₀ (F := F)) 𝒱₀ (tV d L) none) Set.univ
          (rowB0 L v29 k0_t1 arg32 v360 v375 v378 v381 v384 v387 v390 v393 v396 v399 v402 v405 v408 v411 v414 v417 v420 v423 v426 v428 v431 v434 v437 v440 v443 k a)
          fun _ => iprop(bufAt d L cc0_scratch5 fc ∗ bufAt d L cc0_scratch9 fe
            ∗ bufAt d L cc0_scratch13 (fun y => if (y 0).val = k.val then mix M DM SV fc fe y else fo y) : sProp 𝕄) := by
  unfold rowB0 k0_t2_body
  iintro ⟨Hc, He, Ho⟩
  sl_exec_parts
  sl_exec
  sl_step
  isplitl [Hc]; · iexact Hc
  isplitl [He]; · iexact He
  have hp := RowPieces.done13 (G := mix M DM SV ((Memref.whole cc0_scratch5).view.read (Elt F) fc) ((Memref.whole cc0_scratch9).view.read (Elt F) fe))
    (fo := fo) (k := k.val) (L := ?L) ?pieces
  iapply (Entails.of_eq (congrArg (bufAt d L cc0_scratch13) hp))
  iexact Ho
  case pieces =>
    sl_unfold_run_names
    repeat' (refine RowPieces.push hm hd hs ?_ rfl (conv_ok rfl))
    exact .nil

/-- Row `k` of a chunk in buffer 1: the output buffer at `mix` in the row, unchanged elsewhere. -/
theorem row1 (v29 : BitVec 32) (k0_t1 : Fin k0_t1_loop.trips) (arg32 : BitVec 32) (v457 : BitVec 32) (v472 v475 v478 v481 v484 v487 v490 v493 v496 v499 v502 v505 v508 v511 v514 v517 v520 v523 v526 v529 : FVec F S16 .f32)
    (v531 v534 v537 v540 : Vec F S1x16 .f32) (M DM SV : ℕ → F .f32)
    (hm : ∀ (s : Fin 8) (l : S16.Idx), (![v472, v475, v478, v481, v484, v487, v490, v493] : Fin 8 → FVec F S16 .f32) s l = M s)
    (hd : ∀ (s : Fin 8) (l : S16.Idx), (![v496, v499, v502, v505, v508, v511, v514, v517] : Fin 8 → FVec F S16 .f32) s l = DM s)
    (hs : ∀ (s : Fin 8) (l : S16.Idx), (![v520, v523, v526, v529, shapeCast S16 v531 shapeCasts_S1x16_S16, shapeCast S16 v534 shapeCasts_S1x16_S16, shapeCast S16 v537 shapeCasts_S1x16_S16, shapeCast S16 v540 shapeCasts_S1x16_S16] : Fin 8 → FVec F S16 .f32) s l = SV s)
    (k : Fin k0_t3_loop.trips) (a : BitVec 32) (fc : Buf (Elt F) ((tV d L).loc cc0_scratch6)) (fe : Buf (Elt F) ((tV d L).loc cc0_scratch10))
    (fo : Buf (Elt F) ((tV d L).loc cc0_scratch14)) :
    iprop(bufAt d L cc0_scratch6 fc ∗ bufAt d L cc0_scratch10 fe ∗ bufAt d L cc0_scratch14 fo : sProp 𝕄)
      ⊢ wp frame (wpE (defs₀ (F := F)) 𝒱₀ (tV d L) none) Set.univ
          (rowB1 L v29 k0_t1 arg32 v457 v472 v475 v478 v481 v484 v487 v490 v493 v496 v499 v502 v505 v508 v511 v514 v517 v520 v523 v526 v529 v531 v534 v537 v540 k a)
          fun _ => iprop(bufAt d L cc0_scratch6 fc ∗ bufAt d L cc0_scratch10 fe
            ∗ bufAt d L cc0_scratch14 (fun y => if (y 0).val = k.val then mix M DM SV fc fe y else fo y) : sProp 𝕄) := by
  unfold rowB1 k0_t3_body
  iintro ⟨Hc, He, Ho⟩
  sl_exec_parts
  sl_exec
  sl_step
  isplitl [Hc]; · iexact Hc
  isplitl [He]; · iexact He
  have hp := RowPieces.done14 (G := mix M DM SV ((Memref.whole cc0_scratch6).view.read (Elt F) fc) ((Memref.whole cc0_scratch10).view.read (Elt F) fe))
    (fo := fo) (k := k.val) (L := ?L) ?pieces
  iapply (Entails.of_eq (congrArg (bufAt d L cc0_scratch14) hp))
  iexact Ho
  case pieces =>
    sl_unfold_run_names
    repeat' (refine RowPieces.push hm hd hs ?_ rfl (conv_ok rfl))
    exact .nil

/-- Row `k` of a chunk in buffer 2: the output buffer at `mix` in the row, unchanged elsewhere. -/
theorem row2 (v29 : BitVec 32) (k0_t1 : Fin k0_t1_loop.trips) (arg32 : BitVec 32) (v554 : BitVec 32) (v573 v576 v579 v582 v585 v588 v591 v594 v597 v600 v603 v606 v609 v612 v615 v618 v621 v624 v627 v630 : FVec F S16 .f32)
    (v632 v635 v638 v641 : Vec F S1x16 .f32) (M DM SV : ℕ → F .f32)
    (hm : ∀ (s : Fin 8) (l : S16.Idx), (![v573, v576, v579, v582, v585, v588, v591, v594] : Fin 8 → FVec F S16 .f32) s l = M s)
    (hd : ∀ (s : Fin 8) (l : S16.Idx), (![v597, v600, v603, v606, v609, v612, v615, v618] : Fin 8 → FVec F S16 .f32) s l = DM s)
    (hs : ∀ (s : Fin 8) (l : S16.Idx), (![v621, v624, v627, v630, shapeCast S16 v632 shapeCasts_S1x16_S16, shapeCast S16 v635 shapeCasts_S1x16_S16, shapeCast S16 v638 shapeCasts_S1x16_S16, shapeCast S16 v641 shapeCasts_S1x16_S16] : Fin 8 → FVec F S16 .f32) s l = SV s)
    (k : Fin k0_t4_loop.trips) (a : BitVec 32) (fc : Buf (Elt F) ((tV d L).loc cc0_scratch7)) (fe : Buf (Elt F) ((tV d L).loc cc0_scratch11))
    (fo : Buf (Elt F) ((tV d L).loc cc0_scratch13)) :
    iprop(bufAt d L cc0_scratch7 fc ∗ bufAt d L cc0_scratch11 fe ∗ bufAt d L cc0_scratch13 fo : sProp 𝕄)
      ⊢ wp frame (wpE (defs₀ (F := F)) 𝒱₀ (tV d L) none) Set.univ
          (rowB2 L v29 k0_t1 arg32 v554 v573 v576 v579 v582 v585 v588 v591 v594 v597 v600 v603 v606 v609 v612 v615 v618 v621 v624 v627 v630 v632 v635 v638 v641 k a)
          fun _ => iprop(bufAt d L cc0_scratch7 fc ∗ bufAt d L cc0_scratch11 fe
            ∗ bufAt d L cc0_scratch13 (fun y => if (y 0).val = k.val then mix M DM SV fc fe y else fo y) : sProp 𝕄) := by
  unfold rowB2 k0_t4_body
  iintro ⟨Hc, He, Ho⟩
  sl_exec_parts
  sl_exec
  sl_step
  isplitl [Hc]; · iexact Hc
  isplitl [He]; · iexact He
  have hp := RowPieces.done13 (G := mix M DM SV ((Memref.whole cc0_scratch7).view.read (Elt F) fc) ((Memref.whole cc0_scratch11).view.read (Elt F) fe))
    (fo := fo) (k := k.val) (L := ?L) ?pieces
  iapply (Entails.of_eq (congrArg (bufAt d L cc0_scratch13) hp))
  iexact Ho
  case pieces =>
    sl_unfold_run_names
    repeat' (refine RowPieces.push hm hd hs ?_ rfl (conv_ok rfl))
    exact .nil

/-- Row `k` of a chunk in buffer 3: the output buffer at `mix` in the row, unchanged elsewhere. -/
theorem row3  (v674 v677 v680 v683 v686 v689 v692 v695 v698 v701 v704 v707 v710 v713 v716 v719 v722 v725 v728 v731 : FVec F S16 .f32)
    (v733 v736 v739 v742 : Vec F S1x16 .f32) (M DM SV : ℕ → F .f32)
    (hm : ∀ (s : Fin 8) (l : S16.Idx), (![v674, v677, v680, v683, v686, v689, v692, v695] : Fin 8 → FVec F S16 .f32) s l = M s)
    (hd : ∀ (s : Fin 8) (l : S16.Idx), (![v698, v701, v704, v707, v710, v713, v716, v719] : Fin 8 → FVec F S16 .f32) s l = DM s)
    (hs : ∀ (s : Fin 8) (l : S16.Idx), (![v722, v725, v728, v731, shapeCast S16 v733 shapeCasts_S1x16_S16, shapeCast S16 v736 shapeCasts_S1x16_S16, shapeCast S16 v739 shapeCasts_S1x16_S16, shapeCast S16 v742 shapeCasts_S1x16_S16] : Fin 8 → FVec F S16 .f32) s l = SV s)
    (k : Fin k0_t5_loop.trips) (a : BitVec 32) (fc : Buf (Elt F) ((tV d L).loc cc0_scratch8)) (fe : Buf (Elt F) ((tV d L).loc cc0_scratch12))
    (fo : Buf (Elt F) ((tV d L).loc cc0_scratch14)) :
    iprop(bufAt d L cc0_scratch8 fc ∗ bufAt d L cc0_scratch12 fe ∗ bufAt d L cc0_scratch14 fo : sProp 𝕄)
      ⊢ wp frame (wpE (defs₀ (F := F)) 𝒱₀ (tV d L) none) Set.univ
          (rowB3 L v674 v677 v680 v683 v686 v689 v692 v695 v698 v701 v704 v707 v710 v713 v716 v719 v722 v725 v728 v731 v733 v736 v739 v742 k a)
          fun _ => iprop(bufAt d L cc0_scratch8 fc ∗ bufAt d L cc0_scratch12 fe
            ∗ bufAt d L cc0_scratch14 (fun y => if (y 0).val = k.val then mix M DM SV fc fe y else fo y) : sProp 𝕄) := by
  unfold rowB3 k0_t5_body
  iintro ⟨Hc, He, Ho⟩
  sl_exec_parts
  sl_exec
  sl_step
  isplitl [Hc]; · iexact Hc
  isplitl [He]; · iexact He
  have hp := RowPieces.done14 (G := mix M DM SV ((Memref.whole cc0_scratch8).view.read (Elt F) fc) ((Memref.whole cc0_scratch12).view.read (Elt F) fe))
    (fo := fo) (k := k.val) (L := ?L) ?pieces
  iapply (Entails.of_eq (congrArg (bufAt d L cc0_scratch14) hp))
  iexact Ho
  case pieces =>
    sl_unfold_run_names
    repeat' (refine RowPieces.push hm hd hs ?_ rfl (conv_ok rfl))
    exact .nil

end Cert.Proof.Mix

end
-- ==== Proof.Step.lean ====
/-
  One step of a tile: four chunks, each landed, mixed and sent back while the next ones' copies start.
-/
module

public import proofs.«01_k».proof.Proof.Ring
public import proofs.«01_k».proof.Proof.Inner

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- What follows a guarded statement, taken out of its two branches. -/
theorem dite_join {Ef : Type → Type} {β : Type} {P : Prop} [Decidable P] (a : P → Prog Ef PUnit) (r : PUnit → Prog Ef β) (y : Prog Ef β)
    (hy : r ⟨⟩ = y) : (dite P (fun h => a h >>= r) fun _ => y) = (dite P a fun _ => pure ⟨⟩) >>= r := by
  by_cases h : P
  · rw [dif_pos h, dif_pos h]
  · rw [dif_neg h, dif_neg h]; exact hy.symm

/-- The same with two statements under the guard. -/
theorem dite_join2 {Ef : Type → Type} {β : Type} {P : Prop} [Decidable P] (a b : P → Prog Ef PUnit) (r : PUnit → Prog Ef β) (y : Prog Ef β)
    (hy : r ⟨⟩ = y) :
    (dite P (fun h => a h >>= fun _ => b h >>= r) fun _ => y) = (dite P (fun h => a h >>= fun _ => b h) fun _ => pure ⟨⟩) >>= r := by
  by_cases h : P
  · rw [dif_pos h, dif_pos h, bind_assoc]
  · rw [dif_neg h, dif_neg h]; exact hy.symm

section
variable (d : Dev nD) (L : grid0.Coords) (O : CellTallies nD τ sig (HIx 1)) (W : Waits sig (HIx 1))

/-- A rule for a piece of a program, used where the rest follows. -/
theorem cps {α β : Type} {Q : β → sProp 𝕄} {p : Prog (TpuEff nD τ sig (Elt F) Λ₀ (tV d L).2) α} {H R : sProp 𝕄}
    (h : H ⊢ wp frame (wpE (defs₀ (F := F)) 𝒱₀ (tV d L) none) Set.univ p fun _ => R) (kk : α → Prog (TpuEff nD τ sig (Elt F) Λ₀ (tV d L).2) β) :
    H ⊢ iprop((∀ a, R -∗ wp frame (wpE (defs₀ (F := F)) 𝒱₀ (tV d L) none) Set.univ (kk a) Q)
      -∗ wp frame (wpE (defs₀ (F := F)) 𝒱₀ (tV d L) none) Set.univ (p >>= kk) Q) := by
  rw [wp_bind]
  exact h.trans (wp_wand _ _ _)

/-- The loop over a chunk's sixteen rows, from what one row does. -/
theorem rowsFor {β : Type} {Q : β → sProp 𝕄} (lp : Scf.Loop 32) (hok : lp.OK) (h16 : lp.trips = 16) (X Y : sProp 𝕄)
    (A : (S16x8x128.Idx → Elt F .f32) → sProp 𝕄) (G fo : S16x8x128.Idx → Elt F .f32)
    (body : Fin lp.trips → BitVec 32 → Prog (TpuEff nD τ sig (Elt F) Λ₀ (tV d L).2) (BitVec 32))
    (hrow : ∀ k a fo, iprop(X ∗ Y ∗ A fo) ⊢ wp frame (wpE (defs₀ (F := F)) 𝒱₀ (tV d L) none) Set.univ (body k a)
      fun _ => iprop(X ∗ Y ∗ A fun y => if (y 0).val = k.val then G y else fo y))
    (init : BitVec 32) (kk : BitVec 32 → Prog (TpuEff nD τ sig (Elt F) Λ₀ (tV d L).2) β) :
    iprop(X ∗ Y ∗ A fo) ⊢ iprop((∀ acc, iprop(X ∗ Y ∗ A G) -∗ wp frame (wpE (defs₀ (F := F)) 𝒱₀ (tV d L) none) Set.univ (kk acc) Q)
      -∗ wp frame (wpE (defs₀ (F := F)) 𝒱₀ (tV d L) none) Set.univ (lp.for hok init body >>= kk) Q) := by
  have h := Scf.wp_for_bind frame (wpE (defs₀ (F := F)) 𝒱₀ (tV d L) none) Set.univ lp.lb lp.ub lp.st hok init body
    (fun k _ => iprop(X ∗ Y ∗ A fun y => if (y 0).val < k then G y else fo y)) (fun k acc => ?_) (kk := kk) (Q := Q)
  · have e0 : (fun y : S16x8x128.Idx => if (y 0).val < 0 then G y else fo y) = fo := funext fun y => if_neg (Nat.not_lt_zero _)
    have e1 : (fun y : S16x8x128.Idx => if (y 0).val < Scf.trips lp.lb lp.ub lp.st then G y else fo y) = G :=
      funext fun y => if_pos (by rw [show Scf.trips lp.lb lp.ub lp.st = 16 from h16]; exact (y 0).isLt)
    simp only [e0, e1] at h
    exact h
  · refine (hrow k acc _).trans (wp_mono _ _ _ fun _ => Entails.of_eq ?_)
    congr 3
    funext y
    by_cases h1 : (y 0).val = k.val
    · rw [if_pos h1, if_pos (by omega)]
    · rw [if_neg h1]
      by_cases h2 : (y 0).val < k.val
      · rw [if_pos h2, if_pos (by omega)]
      · rw [if_neg h2, if_neg (by omega)]

/-- The start of a write-back as a piece of a program. -/
theorem back (m : Memref sig .scVector .vmem S16x8x128 .f32) (sem : DmaSem sig) (n : Fin 128) (off : Fin 4 → ℕ)
    (hoff : ∀ a, off a + S1x16x8x128.size a ≤ S8x8192x8x128.size a) (e : off = eOff L n) (hm : m.view.set = Finset.univ)
    (f : Buf (Elt F) (m.view.loc (tV d L))) (fo G : Buf (Elt F) ((tV d L).loc main_v2_scv))
    (hf : (oSl L n).view.read (Elt F) G = m.view.read (Elt F) f)
    {hsrc : m.view.WordExact} {hdst : (oWin off hoff).view.WordExact}
    {hsem : DmaTarget.Typed (nD := nD) .vmem (.dma sem) (DmaTarget.here (p := (tV d L).2) (oWin off hoff))} :
    iprop(semVal (tV d L, SemLoc.dma sem) 0 ∗ memAt d L m f ∗ oCh d L fo n)
      ⊢ wp frame (wpE (defs₀ (F := F)) 𝒱₀ (tV d L) none) Set.univ
          (Prog.lift (.enqueueDma m (.here (oWin off hoff)) (.dma sem) hsrc hdst hsem) : Prog (TpuEff nD τ sig (Elt F) Λ₀ (tV d L).2) PUnit)
          fun _ => outFlight d L sem m G n := by
  rw [← outSlot_succ]
  refine (wp_back d L m sem n off hoff e hm f fo G hf (k := Prog.ret) (Q := fun _ => outSlot d L sem m G (n.val + 2))
    (hsrc := hsrc) (hdst := hdst) (hsem := hsem)).trans ?_
  iintro H
  iapply H
  iintro H
  rw [wp_ret]
  imodintro
  iexact H

/-- The wait for a write-back that is surely outstanding. -/
theorem waitOut {β : Type} {Q : β → sProp 𝕄} (n : ℕ) (hn : n < 128)
    (m : Memref sig .scVector .vmem S16x8x128 .f32) (sem : DmaSem sig) (G : Buf (Elt F) ((tV d L).loc main_v2_scv))
    (off : Fin 4 → ℕ) (ho : ∀ a, off a + S1x16x8x128.size a ≤ S8x8192x8x128.size a)
    {w₁ : m.view.WordExact} {w₂ : (oWin off ho).view.WordExact} (kk : PUnit → Prog (TpuEff nD τ sig (Elt F) Λ₀ (tV d L).2) β) :
    iprop(Transfers.MayWaits (tV d L) (default : HIx 1) O ∗ owing d L O W ∗ outFlight d L sem m G ⟨n, hn⟩ ∗ bigSep (belowC n) (oCh d L G))
      ⊢ iprop((iprop(owing d L O W ∗ freeSlot d L sem m ∗ bigSep (belowC (n + 1)) (oCh d L G))
          -∗ wp frame (wpE (defs₀ (F := F)) 𝒱₀ (tV d L) none) Set.univ (kk ⟨⟩) Q)
        -∗ wp frame (wpE (defs₀ (F := F)) 𝒱₀ (tV d L) none) Set.univ (.op (.waitDma2 sem m (oWin off ho) w₁ w₂) kk) Q) := by
  have h := waitBack d L O W (P := True) (n + 2) ⟨fun _ => by omega, fun _ => trivial⟩ (by omega) m sem G off (fun _ => ho) (w₁ := fun _ => w₁) (w₂ := fun _ => w₂)
  rw [dif_pos trivial, show n + 2 = (⟨n, hn⟩ : Fin 128).val + 2 from rfl, outSlot_succ] at h
  rw [show (⟨n, hn⟩ : Fin 128).val + 2 - 1 = n + 1 from rfl] at h
  refine (cps d L h kk (Q := Q)).trans ?_
  iintro H H'
  iapply H
  iintro %_ Hr
  iapply H' $$ Hr

/-- Two waits add only what a wait may. -/
theorem owing_two {W₀ : Waits sig (HIx 1)} (h : ∀ p ∈ W₀, p ∈ W ∨ p.2 = none) (s s' : SemLoc sig) :
    owes (tV d L) O (insert (s, (default : HIx 1)) (insert (s', (default : HIx 1)) W₀)) ⊢ (owing d L O W : sProp 𝕄) := by
  iintro H
  iexists _
  isplitr
  swap
  · iexact H
  · ipureintro
    intro p hp
    rcases Finset.mem_insert.1 hp with rfl | hp
    · exact .inr rfl
    rcases Finset.mem_insert.1 hp with rfl | hp
    · exact .inr rfl
    · exact h p hp

/-- A row of a table whose rows are constant, as the lanes it is read into. -/
theorem lanes_row (N : ℕ → F .f32) (v : View sig .scVector .vmem S8x16 .f32) (f : Buf (Elt F) (v.loc (tV d L)))
    (hf : ∀ y : S8x16.Idx, v.read (Elt F) f y = N (y 0).val) (l : S16.Idx) (s : ℕ) (inb : ∀ a, ![s, 0] a + ![1, 16] a ≤ S8x16.size a) :
    shapeCast S16 (v.readAt (Elt F) (Rect.unit (s := S8x16) ![s, 0] ![1, 16] inb).toLoadRect f) shapeCasts_S1x16_S16 l = N s := by
  unfold shapeCast
  generalize Shape.reshapeEquiv shapeCasts_S1x16_S16 l = j
  show v.read (Elt F) f ((Rect.unit (s := S8x16) ![s, 0] ![1, 16] inb).emb j) = _
  rw [hf]
  have h : (j 0).val < 1 := (j 0).isLt
  congr 1
  show s + 1 * (j 0).val = s
  omega

variable (M DM SV : ℕ → F .f32) (q : PosShare TreeShare) (C : Buf (Elt F) ((tV d L).loc main_arg0_scv))
  (E : Buf (Elt F) ((tV d L).loc main_v1_scv)) (G : Buf (Elt F) ((tV d L).loc main_v2_scv))

/-- Four more chunks are done. -/
theorem below4 (k : ℕ) (hk : k < 32) (Φ : Fin 128 → sProp 𝕄) :
    iprop(Φ ⟨4 * k + 0, by omega⟩ ∗ Φ ⟨4 * k + 1, by omega⟩ ∗ Φ ⟨4 * k + 2, by omega⟩ ∗ Φ ⟨4 * k + 3, by omega⟩ ∗ bigSep (belowC (4 * k)) Φ)
      ⊢ bigSep (belowC (4 * (k + 1))) Φ := by
  rw [show 4 * (k + 1) = 4 * k + 3 + 1 from rfl, belowC_succ (4 * k + 3) (by omega), belowC_succ (4 * k + 2) (by omega),
    belowC_succ (4 * k + 1) (by omega), belowC_succ (4 * k) (by omega)]
  iintro ⟨H0, H1, H2, H3, H⟩
  isplitl [H3]
  · iexact H3
  isplitl [H2]
  · iexact H2
  isplitl [H1]
  · iexact H1
  isplitl [H0]
  · iexact H0
  · iexact H

/-- Before step `k`: the tables, the eight input slots at the step's chunks, the two output slots, and the chunks of the
    three arrays that are ahead, done, or not yet written. -/
def stepInv (k : ℕ) (_ : BitVec 32) : sProp 𝕄 :=
  iprop(Transfers.MayWaits (tV d L) (default : HIx 1) O ∗ owing d L O W
    ∗ bufAt d L cc0_scratch2 (fun y => M (y 0).val) ∗ bufAt d L cc0_scratch3 (fun y => DM (y 0).val) ∗ bufAt d L cc0_scratch4 (fun y => SV (y 0).val)
    ∗ inSlot d L cc0_scratch15.sem (Memref.whole cc0_scratch5) (cVal d L C) (cCh d L q C) (4 * k + 0)
    ∗ inSlot d L cc0_scratch16.sem (Memref.whole cc0_scratch6) (cVal d L C) (cCh d L q C) (4 * k + 1)
    ∗ inSlot d L cc0_scratch17.sem (Memref.whole cc0_scratch7) (cVal d L C) (cCh d L q C) (4 * k + 2)
    ∗ inSlot d L cc0_scratch18.sem (Memref.whole cc0_scratch8) (cVal d L C) (cCh d L q C) (4 * k + 3)
    ∗ inSlot d L cc0_scratch19.sem (Memref.whole cc0_scratch9) (eVal d L E) (eCh d L E) (4 * k + 0)
    ∗ inSlot d L cc0_scratch20.sem (Memref.whole cc0_scratch10) (eVal d L E) (eCh d L E) (4 * k + 1)
    ∗ inSlot d L cc0_scratch21.sem (Memref.whole cc0_scratch11) (eVal d L E) (eCh d L E) (4 * k + 2)
    ∗ inSlot d L cc0_scratch22.sem (Memref.whole cc0_scratch12) (eVal d L E) (eCh d L E) (4 * k + 3)
    ∗ outSlot d L cc0_scratch23.sem (Memref.whole cc0_scratch13) G (4 * k)
    ∗ outSlot d L cc0_scratch24.sem (Memref.whole cc0_scratch14) G (4 * k + 1)
    ∗ bigSep (fromC (4 * k + 4)) (cCh d L q C) ∗ bigSep (fromC (4 * k + 4)) (eCh d L E)
    ∗ bigSep (belowC (4 * k)) (cCh d L q C) ∗ bigSep (belowC (4 * k)) (eCh d L E)
    ∗ bigSep (fromC (4 * k)) (fun n => iprop(∃ f, oCh d L f n)) ∗ bigSep (belowC (4 * k - 2)) (oCh d L G))

set_option maxHeartbeats 1000000 in
theorem step (hG : ∀ n, (oSl L n).view.read (Elt F) G = mix M DM SV (cVal d L C n) (eVal d L E n))
    (v29 : BitVec 32) (k : Fin k0_t1_loop.trips) (a : BitVec 32) :
    stepInv d L O W M DM SV q C E G k.val a
      ⊢ wp frame (wpE (defs₀ (F := F)) 𝒱₀ (tV d L) none) Set.univ (stepB L v29 k a) (stepInv d L O W M DM SV q C E G (k.val + 1)) := by
  have hk : k.val < 32 := k.isLt
  unfold stepInv
  rw [inSlot_lt _ _ _ _ _ _ _ (show 4 * k.val + 0 < 128 by omega), inSlot_lt _ _ _ _ _ _ _ (show 4 * k.val + 0 < 128 by omega),
    inSlot_lt _ _ _ _ _ _ _ (show 4 * k.val + 1 < 128 by omega), inSlot_lt _ _ _ _ _ _ _ (show 4 * k.val + 1 < 128 by omega),
    inSlot_lt _ _ _ _ _ _ _ (show 4 * k.val + 2 < 128 by omega), inSlot_lt _ _ _ _ _ _ _ (show 4 * k.val + 2 < 128 by omega),
    inSlot_lt _ _ _ _ _ _ _ (show 4 * k.val + 3 < 128 by omega), inSlot_lt _ _ _ _ _ _ _ (show 4 * k.val + 3 < 128 by omega),
    fromC_succ (4 * k.val) (by omega), fromC_succ (4 * k.val + 1) (by omega), fromC_succ (4 * k.val + 2) (by omega), fromC_succ (4 * k.val + 3) (by omega)]
  iintro ⟨#Hmw, ⟨%W', %hW', HO⟩, H9, H10, H11, Hc0, Hc1, Hc2, Hc3, He0, He1, He2, He3, Ho0, Ho1, HC, HE, HCd, HEd, ⟨⟨%f0, Hf0⟩, ⟨%f1, Hf1⟩, ⟨%f2, Hf2⟩, ⟨%f3, Hf3⟩, Hfr⟩, Hdn⟩
  unfold stepB k0_t1_body
  simp only [k0_part81_eq_skeleton, k0_part82_eq_skeleton, k0_part83_eq_skeleton]; unfold k0_part81_skel k0_part82_skel k0_part83_skel
  sl_exec
  dsimp only
  rw [dite_join, bind_assoc]
  case hy => rfl
  iapply (cps d L (waitBack d L O W (4 * k.val) ((cond1_iff k).trans (by omega)) (by omega) (Memref.whole cc0_scratch13) cc0_scratch23.sem G _ _)) $$ [HO Ho0 Hdn]
  · isplitr
    · iexact Hmw
    · isplitl [HO]
      · iapply (owing_two d L O W hW' _ _) $$ HO
      · isplitl [Ho0]
        · iexact Ho0
        · iexact Hdn
  iintro %_ ⟨HO, ⟨Ho0, ⟨%fo0, Hb0⟩⟩, Hdn⟩
  icases HO with ⟨%W1, %hW1, HO⟩
  sl_exec
  dsimp only
  rw [bind_assoc]
  iapply (rowsFor d L k0_t2_loop k0_t2_ok (by decide) (bufAt d L cc0_scratch5 (cVal d L C ⟨4 * k.val + 0, by omega⟩))
    (bufAt d L cc0_scratch9 (eVal d L E ⟨4 * k.val + 0, by omega⟩)) (bufAt d L cc0_scratch13)
    (mix M DM SV (cVal d L C ⟨4 * k.val + 0, by omega⟩) (eVal d L E ⟨4 * k.val + 0, by omega⟩)) _ _ ?row _ _) $$ [Hc0_dst He0_dst Hb0]
  case row =>
    intro k' a' fo
    refine row0 d L _ _ _ _ _ _ _ _ _ _ _ _ _ _ _ _ _ _ _ _ _ _ _ _ _ _ _ _ M DM SV ?_ ?_ ?_ _ _ _ _ _
    · intro s l
      have R := lanes_row d L M (Memref.whole cc0_scratch2).view (fun y => M (y 0).val) (fun _ => rfl) l
      fin_cases s
      exacts [R 0 _, R 1 _, R 2 _, R 3 _, R 4 _, R 5 _, R 6 _, R 7 _]
    · intro s l
      have R := lanes_row d L DM (Memref.whole cc0_scratch3).view (fun y => DM (y 0).val) (fun _ => rfl) l
      fin_cases s
      exacts [R 0 _, R 1 _, R 2 _, R 3 _, R 4 _, R 5 _, R 6 _, R 7 _]
    · intro s l
      have R := lanes_row d L SV (Memref.whole cc0_scratch4).view (fun y => SV (y 0).val) (fun _ => rfl) l
      fin_cases s
      exacts [R 0 _, R 1 _, R 2 _, R 3 _, R 4 _, R 5 _, R 6 _, R 7 _]
  · isplitl [Hc0_dst]
    · iexact Hc0_dst
    · isplitl [He0_dst]
      · iexact He0_dst
      · iexact Hb0
  iintro %_ ⟨Hc0_dst, He0_dst, Hb0⟩
  rw [bind_assoc]
  have o0 : k0_off6 L k 0#32 = eOff L ⟨4 * k.val + 0, by omega⟩ := off6_eq L k 0
  iapply (cps d L (back d L (Memref.whole cc0_scratch13) cc0_scratch23.sem ⟨4 * k.val + 0, by omega⟩ _ _ o0 (View.set_whole _) (mix M DM SV (cVal d L C ⟨4 * k.val + 0, by omega⟩) (eVal d L E ⟨4 * k.val + 0, by omega⟩)) f0 G (hG _)) _) $$ [Ho0 Hb0 Hf0]
  · isplitl [Ho0]
    · iexact Ho0
    · isplitl [Hb0]
      · iexact Hb0
      · iexact Hf0
  iintro %_ Ho0
  rw [dite_join2, bind_assoc]
  case hy => rfl
  iapply (cps d L (startNext d L (4 * (k.val + 1) + 0) ((cond2_iff k).trans (by omega)) q C E (Memref.whole cc0_scratch5) cc0_scratch15.sem (cVal d L C) (fun _ _ => View.write_whole_univ ..)
    (Memref.whole cc0_scratch9) cc0_scratch19.sem (eVal d L E) (fun _ _ => View.write_whole_univ ..) _ _ (fun h => off73_eq L k (by omega)) _ _ (fun h => off74_eq L k (by omega))) _)
    $$ [Hc0 Hc0_dst He0 He0_dst HC HE]
  · isplitl [Hc0 Hc0_dst]
    · isplitl [Hc0]
      · iexact Hc0
      · iexists _
        iexact Hc0_dst
    · isplitl [He0 He0_dst]
      · isplitl [He0]
        · iexact He0
        · iexists _
          iexact He0_dst
      · isplitl [HC]
        · iexact HC
        · iexact HE
  iintro %_ ⟨Hc0, He0, HC, HE⟩
  simp only [k0_part84_eq_skeleton, k0_part85_eq_skeleton, k0_part86_eq_skeleton]; unfold k0_part84_skel k0_part85_skel k0_part86_skel
  sl_exec
  dsimp only
  rw [dite_join, bind_assoc]
  case hy => rfl
  iapply (cps d L (waitBack d L O W (4 * k.val + 1) ((cond3_iff k).trans (by omega)) (by omega) (Memref.whole cc0_scratch14) cc0_scratch24.sem G _ _)) $$ [HO Ho1 Hdn]
  · isplitr
    · iexact Hmw
    · isplitl [HO]
      · iapply (owing_two d L O W hW1 _ _) $$ HO
      · isplitl [Ho1]
        · iexact Ho1
        · iexact Hdn
  iintro %_ ⟨HO, ⟨Ho1, ⟨%fo1, Hb1⟩⟩, Hdn⟩
  icases HO with ⟨%W2, %hW2, HO⟩
  sl_exec
  dsimp only
  rw [bind_assoc]
  iapply (rowsFor d L k0_t3_loop k0_t3_ok (by decide) (bufAt d L cc0_scratch6 (cVal d L C ⟨4 * k.val + 1, by omega⟩))
    (bufAt d L cc0_scratch10 (eVal d L E ⟨4 * k.val + 1, by omega⟩)) (bufAt d L cc0_scratch14)
    (mix M DM SV (cVal d L C ⟨4 * k.val + 1, by omega⟩) (eVal d L E ⟨4 * k.val + 1, by omega⟩)) _ _ ?row _ _) $$ [Hc1_dst He1_dst Hb1]
  case row =>
    intro k' a' fo
    refine row1 d L _ _ _ _ _ _ _ _ _ _ _ _ _ _ _ _ _ _ _ _ _ _ _ _ _ _ _ _ M DM SV ?_ ?_ ?_ _ _ _ _ _
    · intro s l
      have R := lanes_row d L M (Memref.whole cc0_scratch2).view (fun y => M (y 0).val) (fun _ => rfl) l
      fin_cases s
      exacts [R 0 _, R 1 _, R 2 _, R 3 _, R 4 _, R 5 _, R 6 _, R 7 _]
    · intro s l
      have R := lanes_row d L DM (Memref.whole cc0_scratch3).view (fun y => DM (y 0).val) (fun _ => rfl) l
      fin_cases s
      exacts [R 0 _, R 1 _, R 2 _, R 3 _, R 4 _, R 5 _, R 6 _, R 7 _]
    · intro s l
      have R := lanes_row d L SV (Memref.whole cc0_scratch4).view (fun y => SV (y 0).val) (fun _ => rfl) l
      fin_cases s
      exacts [R 0 _, R 1 _, R 2 _, R 3 _, R 4 _, R 5 _, R 6 _, R 7 _]
  · isplitl [Hc1_dst]
    · iexact Hc1_dst
    · isplitl [He1_dst]
      · iexact He1_dst
      · iexact Hb1
  iintro %_ ⟨Hc1_dst, He1_dst, Hb1⟩
  rw [bind_assoc]
  have o1 : k0_off6 L k 1#32 = eOff L ⟨4 * k.val + 1, by omega⟩ := off6_eq L k 1
  iapply (cps d L (back d L (Memref.whole cc0_scratch14) cc0_scratch24.sem ⟨4 * k.val + 1, by omega⟩ _ _ o1 (View.set_whole _)
    (mix M DM SV (cVal d L C ⟨4 * k.val + 1, by omega⟩) (eVal d L E ⟨4 * k.val + 1, by omega⟩)) f1 G (hG _)) _) $$ [Ho1 Hb1 Hf1]
  · isplitl [Ho1]
    · iexact Ho1
    · isplitl [Hb1]
      · iexact Hb1
      · iexact Hf1
  iintro %_ Ho1
  rw [dite_join2, bind_assoc]
  case hy => rfl
  iapply (cps d L (startNext d L (4 * (k.val + 1) + 1) ((cond4_iff k).trans (by omega)) q C E (Memref.whole cc0_scratch6) cc0_scratch16.sem (cVal d L C) (fun _ _ => View.write_whole_univ ..)
    (Memref.whole cc0_scratch10) cc0_scratch20.sem (eVal d L E) (fun _ _ => View.write_whole_univ ..) _ _ (fun h => off141_eq L k (by omega)) _ _ (fun h => off142_eq L k (by omega))) _)
    $$ [Hc1 Hc1_dst He1 He1_dst HC HE]
  · isplitl [Hc1 Hc1_dst]
    · isplitl [Hc1]
      · iexact Hc1
      · iexists _
        iexact Hc1_dst
    · isplitl [He1 He1_dst]
      · isplitl [He1]
        · iexact He1
        · iexists _
          iexact He1_dst
      · isplitl [HC]
        · iexact HC
        · iexact HE
  iintro %_ ⟨Hc1, He1, HC, HE⟩
  simp only [k0_part87_eq_skeleton, k0_part88_eq_skeleton, k0_part89_eq_skeleton]; unfold k0_part87_skel k0_part88_skel k0_part89_skel
  sl_exec
  dsimp only
  iapply (waitOut d L O W (4 * k.val + 0) (by omega) (Memref.whole cc0_scratch13) cc0_scratch23.sem G _ _) $$ [HO Ho0 Hdn]
  · isplitr
    · iexact Hmw
    · isplitl [HO]
      · iapply (owing_two d L O W hW2 _ _) $$ HO
      · isplitl [Ho0]
        · iexact Ho0
        · iexact Hdn
  iintro ⟨HO, ⟨Ho0, ⟨%fo2, Hb0⟩⟩, Hdn⟩
  icases HO with ⟨%W3, %hW3, HO⟩
  sl_exec
  dsimp only
  rw [bind_assoc]
  iapply (rowsFor d L k0_t4_loop k0_t4_ok (by decide) (bufAt d L cc0_scratch7 (cVal d L C ⟨4 * k.val + 2, by omega⟩))
    (bufAt d L cc0_scratch11 (eVal d L E ⟨4 * k.val + 2, by omega⟩)) (bufAt d L cc0_scratch13)
    (mix M DM SV (cVal d L C ⟨4 * k.val + 2, by omega⟩) (eVal d L E ⟨4 * k.val + 2, by omega⟩)) _ _ ?row _ _) $$ [Hc2_dst He2_dst Hb0]
  case row =>
    intro k' a' fo
    refine row2 d L _ _ _ _ _ _ _ _ _ _ _ _ _ _ _ _ _ _ _ _ _ _ _ _ _ _ _ _ M DM SV ?_ ?_ ?_ _ _ _ _ _
    · intro s l
      have R := lanes_row d L M (Memref.whole cc0_scratch2).view (fun y => M (y 0).val) (fun _ => rfl) l
      fin_cases s
      exacts [R 0 _, R 1 _, R 2 _, R 3 _, R 4 _, R 5 _, R 6 _, R 7 _]
    · intro s l
      have R := lanes_row d L DM (Memref.whole cc0_scratch3).view (fun y => DM (y 0).val) (fun _ => rfl) l
      fin_cases s
      exacts [R 0 _, R 1 _, R 2 _, R 3 _, R 4 _, R 5 _, R 6 _, R 7 _]
    · intro s l
      have R := lanes_row d L SV (Memref.whole cc0_scratch4).view (fun y => SV (y 0).val) (fun _ => rfl) l
      fin_cases s
      exacts [R 0 _, R 1 _, R 2 _, R 3 _, R 4 _, R 5 _, R 6 _, R 7 _]
  · isplitl [Hc2_dst]
    · iexact Hc2_dst
    · isplitl [He2_dst]
      · iexact He2_dst
      · iexact Hb0
  iintro %_ ⟨Hc2_dst, He2_dst, Hb0⟩
  rw [bind_assoc]
  have o2 : k0_off6 L k 2#32 = eOff L ⟨4 * k.val + 2, by omega⟩ := off6_eq L k 2
  iapply (cps d L (back d L (Memref.whole cc0_scratch13) cc0_scratch23.sem ⟨4 * k.val + 2, by omega⟩ _ _ o2 (View.set_whole _)
    (mix M DM SV (cVal d L C ⟨4 * k.val + 2, by omega⟩) (eVal d L E ⟨4 * k.val + 2, by omega⟩)) f2 G (hG _)) _) $$ [Ho0 Hb0 Hf2]
  · isplitl [Ho0]
    · iexact Ho0
    · isplitl [Hb0]
      · iexact Hb0
      · iexact Hf2
  iintro %_ Ho0
  rw [dite_join2, bind_assoc]
  case hy => rfl
  iapply (cps d L (startNext d L (4 * (k.val + 1) + 2) ((cond5_iff k).trans (by omega)) q C E (Memref.whole cc0_scratch7) cc0_scratch17.sem (cVal d L C) (fun _ _ => View.write_whole_univ ..)
    (Memref.whole cc0_scratch11) cc0_scratch21.sem (eVal d L E) (fun _ _ => View.write_whole_univ ..) _ _ (fun h => off209_eq L k (by omega)) _ _ (fun h => off210_eq L k (by omega))) _)
    $$ [Hc2 Hc2_dst He2 He2_dst HC HE]
  · isplitl [Hc2 Hc2_dst]
    · isplitl [Hc2]
      · iexact Hc2
      · iexists _
        iexact Hc2_dst
    · isplitl [He2 He2_dst]
      · isplitl [He2]
        · iexact He2
        · iexists _
          iexact He2_dst
      · isplitl [HC]
        · iexact HC
        · iexact HE
  iintro %_ ⟨Hc2, He2, HC, HE⟩
  simp only [k0_part90_eq_skeleton, k0_part91_eq_skeleton]; unfold k0_part90_skel k0_part91_skel
  sl_exec
  dsimp only
  iapply (waitOut d L O W (4 * k.val + 1) (by omega) (Memref.whole cc0_scratch14) cc0_scratch24.sem G _ _) $$ [HO Ho1 Hdn]
  · isplitr
    · iexact Hmw
    · isplitl [HO]
      · iapply (owing_two d L O W hW3 _ _) $$ HO
      · isplitl [Ho1]
        · iexact Ho1
        · iexact Hdn
  iintro ⟨HO, ⟨Ho1, ⟨%fo3, Hb1⟩⟩, Hdn⟩
  icases HO with ⟨%W4, %hW4, HO⟩
  sl_exec
  dsimp only
  iapply (rowsFor d L k0_t5_loop k0_t5_ok (by decide) (bufAt d L cc0_scratch8 (cVal d L C ⟨4 * k.val + 3, by omega⟩))
    (bufAt d L cc0_scratch12 (eVal d L E ⟨4 * k.val + 3, by omega⟩)) (bufAt d L cc0_scratch14)
    (mix M DM SV (cVal d L C ⟨4 * k.val + 3, by omega⟩) (eVal d L E ⟨4 * k.val + 3, by omega⟩)) _ _ ?row _ _) $$ [Hc3_dst He3_dst Hb1]
  case row =>
    intro k' a' fo
    refine row3 d L _ _ _ _ _ _ _ _ _ _ _ _ _ _ _ _ _ _ _ _ _ _ _ _ M DM SV ?_ ?_ ?_ _ _ _ _ _
    · intro s l
      have R := lanes_row d L M (Memref.whole cc0_scratch2).view (fun y => M (y 0).val) (fun _ => rfl) l
      fin_cases s
      exacts [R 0 _, R 1 _, R 2 _, R 3 _, R 4 _, R 5 _, R 6 _, R 7 _]
    · intro s l
      have R := lanes_row d L DM (Memref.whole cc0_scratch3).view (fun y => DM (y 0).val) (fun _ => rfl) l
      fin_cases s
      exacts [R 0 _, R 1 _, R 2 _, R 3 _, R 4 _, R 5 _, R 6 _, R 7 _]
    · intro s l
      have R := lanes_row d L SV (Memref.whole cc0_scratch4).view (fun y => SV (y 0).val) (fun _ => rfl) l
      fin_cases s
      exacts [R 0 _, R 1 _, R 2 _, R 3 _, R 4 _, R 5 _, R 6 _, R 7 _]
  · isplitl [Hc3_dst]
    · iexact Hc3_dst
    · isplitl [He3_dst]
      · iexact He3_dst
      · iexact Hb1
  iintro %_ ⟨Hc3_dst, He3_dst, Hb1⟩
  have o3 : k0_off6 L k 3#32 = eOff L ⟨4 * k.val + 3, by omega⟩ := off6_eq L k 3
  iapply (cps d L (back d L (Memref.whole cc0_scratch14) cc0_scratch24.sem ⟨4 * k.val + 3, by omega⟩ _ _ o3 (View.set_whole _)
    (mix M DM SV (cVal d L C ⟨4 * k.val + 3, by omega⟩) (eVal d L E ⟨4 * k.val + 3, by omega⟩)) f3 G (hG _)) _) $$ [Ho1 Hb1 Hf3]
  · isplitl [Ho1]
    · iexact Ho1
    · isplitl [Hb1]
      · iexact Hb1
      · iexact Hf3
  iintro %_ Ho1
  rw [dite_join2]
  case hy => rfl
  iapply (cps d L (startNext d L (4 * (k.val + 1) + 3) ((cond6_iff k).trans (by omega)) q C E (Memref.whole cc0_scratch8) cc0_scratch18.sem (cVal d L C) (fun _ _ => View.write_whole_univ ..)
    (Memref.whole cc0_scratch12) cc0_scratch22.sem (eVal d L E) (fun _ _ => View.write_whole_univ ..) _ _ (fun h => off276_eq L k (by omega)) _ _ (fun h => off277_eq L k (by omega))) _)
    $$ [Hc3 Hc3_dst He3 He3_dst HC HE]
  · isplitl [Hc3 Hc3_dst]
    · isplitl [Hc3]
      · iexact Hc3
      · iexists _
        iexact Hc3_dst
    · isplitl [He3 He3_dst]
      · isplitl [He3]
        · iexact He3
        · iexists _
          iexact He3_dst
      · isplitl [HC]
        · iexact HC
        · iexact HE
  iintro %_ ⟨Hc3, He3, HC, HE⟩
  rw [wp_pure]
  imodintro
  isplitr
  · iexact Hmw
  isplitl [HO]
  · iexists _
    isplitr
    swap
    · iexact HO
    · ipureintro
      exact hW4
  isplitl [H9]
  · iexact H9
  isplitl [H10]
  · iexact H10
  isplitl [H11]
  · iexact H11
  isplitl [Hc0]
  · iexact Hc0
  isplitl [Hc1]
  · iexact Hc1
  isplitl [Hc2]
  · iexact Hc2
  isplitl [Hc3]
  · iexact Hc3
  isplitl [He0]
  · iexact He0
  isplitl [He1]
  · iexact He1
  isplitl [He2]
  · iexact He2
  isplitl [He3]
  · iexact He3
  isplitl [Ho0]
  · iapply (Entails.of_eq (outSlot_succ d L cc0_scratch23.sem (Memref.whole cc0_scratch13) G ⟨4 * k.val + 2, show 4 * k.val + 2 < 128 by omega⟩).symm) $$ Ho0
  isplitl [Ho1]
  · iapply (Entails.of_eq (outSlot_succ d L cc0_scratch24.sem (Memref.whole cc0_scratch14) G ⟨4 * k.val + 3, show 4 * k.val + 3 < 128 by omega⟩).symm) $$ Ho1
  isplitl [HC]
  · iexact HC
  isplitl [HE]
  · iexact HE
  isplitl [HCd Hc0_src Hc1_src Hc2_src Hc3_src]
  · iapply (below4 k.val hk (cCh d L q C))
    isplitl [Hc0_src]
    · iexact Hc0_src
    isplitl [Hc1_src]
    · iexact Hc1_src
    isplitl [Hc2_src]
    · iexact Hc2_src
    isplitl [Hc3_src]
    · iexact Hc3_src
    · iexact HCd
  isplitl [HEd He0_src He1_src He2_src He3_src]
  · iapply (below4 k.val hk (eCh d L E))
    isplitl [He0_src]
    · iexact He0_src
    isplitl [He1_src]
    · iexact He1_src
    isplitl [He2_src]
    · iexact He2_src
    isplitl [He3_src]
    · iexact He3_src
    · iexact HEd
  isplitl [Hfr]
  · iexact Hfr
  · iexact Hdn

end

end Cert.Proof.Mix

end
-- ==== Proof.Tab.lean ====
/-
  The three tables a tile prepares: eight stores, each filling one row of a buffer with one number — the component means, their
  differences and the noise scales at the tile's eight columns — and the numbers as entries of the arrays.
-/
module

public import proofs.«01_k».proof.Proof.Step

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first `n` stores into a table, newest first: store `j` fills row `j` with `T j`. -/
inductive TabPieces (T : ℕ → F .f32) : ℕ → List (View.Piece (Elt F) S8x16 .f32) → Prop
  | nil : TabPieces T 0 []
  | cons {n : ℕ} {L : List (View.Piece (Elt F) S8x16 .f32)} (h : TabPieces T n L)
      (inb : ∀ a, ![n, 0] a + S1x16.size a ≤ S8x16.size a)
      (w : (Rect.unit (s := S8x16) ![n, 0] S1x16.size inb).shape.Idx → Elt F .f32) (hw : ∀ x, w x = T n) :
      TabPieces T (n + 1) (⟨Rect.unit (s := S8x16) ![n, 0] S1x16.size inb, w⟩ :: L)

theorem TabPieces.agree {T : ℕ → F .f32} {n : ℕ} {L : List (View.Piece (Elt F) S8x16 .f32)} (h : TabPieces T n L) :
    ∀ p ∈ L, ∀ x : p.1.shape.Idx, p.2 x = (fun y : S8x16.Idx => T (y 0).val) (p.1.emb x) := by
  induction h with
  | nil => intro p hp; exact absurd hp List.not_mem_nil
  | cons h inb w hw ih =>
    intro p hp
    rcases List.mem_cons.mp hp with rfl | hp
    · intro x
      refine (hw x).trans (congrArg T ?_)
      have h0 : (x 0).val < 1 := (x 0).isLt
      rename_i n _
      show n = n + 1 * (x 0).val
      omega
    · exact ih p hp

theorem TabPieces.cover {T : ℕ → F .f32} {n : ℕ} {L : List (View.Piece (Elt F) S8x16 .f32)} (h : TabPieces T n L)
    (y : S8x16.Idx) (hy : (y 0).val < n) : ∃ p ∈ L, y ∈ p.1.set := by
  induction h with
  | nil => exact absurd hy (Nat.not_lt_zero _)
  | cons h inb w hw ih =>
    rename_i n _
    by_cases hn : (y 0).val = n
    · refine ⟨_, List.mem_cons_self, ?_⟩
      rw [Rect.mem_set_unit]
      have h1 : (y 1).val < 16 := (y 1).isLt
      have e : ∀ i : Fin 2, ![n, 0] i ≤ (y i).val ∧ (y i).val < ![n, 0] i + S1x16.size i := by
        rw [Fin.forall_fin_two]
        show (n ≤ (y 0).val ∧ (y 0).val < n + 1) ∧ (0 ≤ (y 1).val ∧ (y 1).val < 0 + 16)
        omega
      exact e
    · obtain ⟨p, hp, hm⟩ := ih (by omega)
      exact ⟨p, List.mem_cons_of_mem _ hp, hm⟩

/-- After the eight stores a table holds its numbers by rows. -/
theorem TabPieces.read {κ : Kind} {sp : Space} (v : View sig κ sp S8x16 .f32) (f : v.ty.Contents (Elt F)) {T : ℕ → F .f32}
    {L : List (View.Piece (Elt F) S8x16 .f32)} (h : TabPieces T 8 L) (y : S8x16.Idx) :
    v.read (Elt F) (v.writes (Elt F) f L) y = T (y 0).val :=
  View.read_writes_apply_of_pieces v f (fun y : S8x16.Idx => T (y 0).val) L h.agree y (h.cover y (y 0).isLt)

theorem TabPieces.done2 {T : ℕ → F .f32} {f : S8x16.Idx → F .f32} {L : List (View.Piece (Elt F) S8x16 .f32)} (h : TabPieces T 8 L) :
    (Memref.whole cc0_scratch2).view.writes (Elt F) f L = fun y => T (y 0).val :=
  funext fun y => h.read (Memref.whole cc0_scratch2).view f y
theorem TabPieces.done3 {T : ℕ → F .f32} {f : S8x16.Idx → F .f32} {L : List (View.Piece (Elt F) S8x16 .f32)} (h : TabPieces T 8 L) :
    (Memref.whole cc0_scratch3).view.writes (Elt F) f L = fun y => T (y 0).val :=
  funext fun y => h.read (Memref.whole cc0_scratch3).view f y
theorem TabPieces.done4 {T : ℕ → F .f32} {f : S8x16.Idx → F .f32} {L : List (View.Piece (Elt F) S8x16 .f32)} (h : TabPieces T 8 L) :
    (Memref.whole cc0_scratch4).view.writes (Elt F) f L = fun y => T (y 0).val :=
  funext fun y => h.read (Memref.whole cc0_scratch4).view f y

/-- Lane `n` of sixteen. -/
def lane (v : FVec F S16 .f32) (n : ℕ) : F .f32 := v fun a => ⟨n % 16, by have ha : a = 0 := Subsingleton.elim _ _; subst ha; exact Nat.mod_lt _ (by decide)⟩

/-- The number a tile picks for row `n` of a table: lane `n` of the upper or of the lower eight. -/
theorem pick (c : BitVec 1) (p : ℕ) (hp : p < 2) (hc : c = BitVec.ofNat 1 p) (v : FVec F S16 .f32) (n : ℕ) (hn : n < 8)
    (h1 : S16.Slices ![8 + n] S1) (h2 : S16.Slices ![n] S1) (h3 h4 : ∀ a, ![0] a < S1.size a) :
    Scalar.select c (extractAt ![0] (extractStridedSlice S1 ![8 + n] v h1) h3) (extractAt ![0] (extractStridedSlice S1 ![n] v h2) h4)
      = lane v (8 * p + n) := by
  have e1 : extractAt ![0] (extractStridedSlice S1 ![8 + n] v h1) h3 = lane v (8 + n) :=
    congrArg v (funext fun a => Fin.ext (by
      have ha : a = 0 := Subsingleton.elim _ _; subst ha
      show 8 + n + 0 = (8 + n) % 16; omega))
  have e2 : extractAt ![0] (extractStridedSlice S1 ![n] v h2) h4 = lane v n :=
    congrArg v (funext fun a => Fin.ext (by
      have ha : a = 0 := Subsingleton.elim _ _; subst ha
      show n + 0 = n % 16; omega))
  rw [e1, e2, hc]
  have : p = 0 ∨ p = 1 := by omega
  rcases this with rfl | rfl
  · rw [Nat.mul_zero, Nat.zero_add]; rfl
  · rfl

theorem TabPieces.push {T : ℕ → F .f32} {c : BitVec 1} {p : ℕ} {v : FVec F S16 .f32} {n : ℕ} {L : List (View.Piece (Elt F) S8x16 .f32)}
    {inb : ∀ a, ![n, 0] a + S1x16.size a ≤ S8x16.size a} {h1 : S16.Slices ![8 + n] S1} {h2 : S16.Slices ![n] S1} {h3 h4 : ∀ a, ![0] a < S1.size a}
    {h5 : S16.ShapeCasts S1x16} (hc : c = BitVec.ofNat 1 p) (hp : p < 2) (hn : n < 8) (hT : lane v (8 * p + n) = T n) (h : TabPieces T n L) :
    TabPieces T (n + 1)
      (⟨Rect.unit (s := S8x16) ![n, 0] S1x16.size inb, shapeCast S1x16 (broadcast S16 (Scalar.select c
        (extractAt ![0] (extractStridedSlice S1 ![8 + n] v h1) h3) (extractAt ![0] (extractStridedSlice S1 ![n] v h2) h4))) h5⟩ :: L) :=
  .cons h inb _ fun _ => (pick c p hp hc v n hn h1 h2 h3 h4).trans hT

/-! ## The numbers -/

theorem off1_eq : ∀ L : grid0.Coords, k0_off1 L = ![0, 16 * (trow L / 2)] := by decide +kernel
theorem off2_eq : ∀ L : grid0.Coords, k0_off2 L = ![1, 16 * (trow L / 2)] := by decide +kernel

/-- Entry `(r, z)` of a `2×64` array. -/
def entry (X : S2x64.Idx → F .f32) (r z : ℕ) : F .f32 :=
  X (fun a => match a with | 0 => ⟨r % 2, Nat.mod_lt _ (by decide)⟩ | 1 => ⟨z % 64, Nat.mod_lt _ (by decide)⟩)

/-- A lane of sixteen read from a row of a `2×64` buffer. -/
theorem lane_entry {κ : Kind} {sp : Space} (v : View sig κ sp S2x64 .f32) (f : v.ty.Contents (Elt F)) (L : grid0.Coords) (r n : ℕ) (hr : r < 2) (hn : n < 16)
    (off : Fin 2 → ℕ) (ho : off = ![r, 16 * (trow L / 2)]) (inb : ∀ a, off a + S1x16.size a ≤ S2x64.size a) (h : S1x16.ShapeCasts S16) :
    lane (shapeCast S16 (v.readAt (Elt F) (Rect.unit (s := S2x64) off S1x16.size inb).toLoadRect f : Vec F S1x16 .f32) h) n
      = entry (v.read (Elt F) f) r (16 * (trow L / 2) + n) := by
  subst ho
  have ht := trow_lt L
  unfold lane
  rw [shapeCast_apply _ h _ (fun a => match a with | 0 => ⟨0, by decide⟩ | 1 => ⟨n, hn⟩ : S1x16.Idx) (by
    rw [Shape.rowMajor_val_two, Shape.rowMajor_val_one]
    show 0 * 16 + n = n % 16
    omega)]
  show v.read (Elt F) f _ = v.read (Elt F) f _
  refine congrArg _ (funext fun a => Fin.ext ?_)
  fin_cases a
  · show r + 1 * 0 = r % 2; omega
  · show 16 * (trow L / 2) + 1 * n = (16 * (trow L / 2) + n) % 64; omega

/-- Column `s` of a tile: the mean, the difference of the means, the scale. -/
def mAt (MU : S2x64.Idx → F .f32) (t s : ℕ) : F .f32 := entry MU 0 (8 * t + s)
def dAt (MU : S2x64.Idx → F .f32) (t s : ℕ) : F .f32 := FloatOps.subf (entry MU 1 (8 * t + s)) (entry MU 0 (8 * t + s))
def sAt (LV : S2x64.Idx → F .f32) (t s : ℕ) : F .f32 := FloatOps.exp (FloatOps.mulf (FloatOps.ofBits .f32 0x3F000000#32) (entry LV 0 (8 * t + s)))

section Rows
variable {κ : Kind} {sp : Space} {v : View sig κ sp S2x64 .f32} {f : v.ty.Contents (Elt F)} {X : S2x64.Idx → F .f32}
  {off off' : Fin 2 → ℕ} {inb : ∀ a, off a + S1x16.size a ≤ S2x64.size a} {inb' : ∀ a, off' a + S1x16.size a ≤ S2x64.size a} {h h' : S1x16.ShapeCasts S16}

theorem lane_m (L : grid0.Coords) (n : ℕ) (hX : v.read (Elt F) f = X) (ho : off = ![0, 16 * (trow L / 2)]) (hn : n < 8) :
    lane (shapeCast S16 (v.readAt (Elt F) (Rect.unit (s := S2x64) off S1x16.size inb).toLoadRect f : Vec F S1x16 .f32) h) (8 * (trow L % 2) + n)
      = mAt X (trow L) n := by
  rw [lane_entry v f L 0 _ (by omega) (by omega) off ho, hX]
  exact congrArg (entry X 0) (by omega)

theorem lane_d (L : grid0.Coords) (n : ℕ) (hX : v.read (Elt F) f = X) (ho : off = ![0, 16 * (trow L / 2)]) (ho' : off' = ![1, 16 * (trow L / 2)]) (hn : n < 8) :
    lane (subf (shapeCast S16 (v.readAt (Elt F) (Rect.unit (s := S2x64) off' S1x16.size inb').toLoadRect f : Vec F S1x16 .f32) h')
        (shapeCast S16 (v.readAt (Elt F) (Rect.unit (s := S2x64) off S1x16.size inb).toLoadRect f : Vec F S1x16 .f32) h)) (8 * (trow L % 2) + n)
      = dAt X (trow L) n := by
  refine (congrArg₂ FloatOps.subf (lane_entry v f L 1 _ (by omega) (by omega) off' ho' inb' h') (lane_entry v f L 0 _ (by omega) (by omega) off ho inb h)).trans ?_
  rw [hX, show 16 * (trow L / 2) + (8 * (trow L % 2) + n) = 8 * trow L + n by omega]
  rfl

theorem lane_s (L : grid0.Coords) (n : ℕ) (hX : v.read (Elt F) f = X) (ho : off = ![0, 16 * (trow L / 2)]) (hn : n < 8) :
    lane (exp (mulf (broadcast S16 (Scalar.ofBits .f32 0x3F000000#32)) (shapeCast S16 (v.readAt (Elt F) (Rect.unit (s := S2x64) off S1x16.size inb).toLoadRect f : Vec F S1x16 .f32) h)))
        (8 * (trow L % 2) + n)
      = sAt X (trow L) n := by
  refine (congrArg (fun z => FloatOps.exp (FloatOps.mulf (FloatOps.ofBits .f32 0x3F000000#32) z)) (lane_entry v f L 0 _ (by omega) (by omega) off ho inb h)).trans ?_
  rw [hX, show 16 * (trow L / 2) + (8 * (trow L % 2) + n) = 8 * trow L + n by omega]
  rfl

end Rows

end Cert.Proof.Mix

end
-- ==== Proof.Tile.lean ====
/-
  A tile's whole run: the tables, the ring primed, the thirty-two steps, the last two write-backs awaited.
-/
module

public import proofs.«01_k».proof.Proof.Tab

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile
variable (d : Dev nD) (L : grid0.Coords) (O : CellTallies nD τ sig (HIx 1)) (W : Waits sig (HIx 1))
  (q : PosShare TreeShare) (C : Buf (Elt F) ((tV d L).loc main_arg0_scv))
  (E : Buf (Elt F) ((tV d L).loc main_v1_scv)) (G : Buf (Elt F) ((tV d L).loc main_v2_scv))

theorem four (Φ : Fin 128 → sProp 𝕄) : bigSep Finset.univ Φ = iprop(Φ 0 ∗ Φ 1 ∗ Φ 2 ∗ Φ 3 ∗ bigSep (fromC 4) Φ) := by
  rw [← fromC_zero, fromC_succ 0 (by omega), fromC_succ (0 + 1) (by omega), fromC_succ (0 + 1 + 1) (by omega), fromC_succ (0 + 1 + 1 + 1) (by omega)]
  rfl

theorem ret_done {Q : PUnit → sProp 𝕄} :
    Q PUnit.unit ⊢ wp frame (wpE (defs₀ (F := F)) 𝒱₀ (tV d L) none) Set.univ
      ((Prog.ret PUnit.unit : Prog (TpuEff nD τ sig (Elt F) Λ₀ (tV d L).2) PUnit).bind fun _ => Pure.pure PUnit.unit) Q := by
  show Q PUnit.unit ⊢ wp _ _ _ (Prog.ret PUnit.unit) Q
  rw [wp_ret]
  iintro H
  imodintro
  iexact H

/-- What a copy of a whole array leaves in a whole buffer. -/
theorem back0 (f X : S2x64.Idx → F .f32) :
    (Memref.whole cc0_scratch0).view.read (Elt F) ((Memref.whole cc0_scratch0).view.write (Elt F) f
      (ReadAs.same.apply ((Memref.whole main_arg2_scv).view.read (Elt F) X)) Finset.univ) = X :=
  View.write_whole_univ (Val := Elt F) cc0_scratch0 f X
theorem back1 (f X : S2x64.Idx → F .f32) :
    (Memref.whole cc0_scratch1).view.read (Elt F) ((Memref.whole cc0_scratch1).view.write (Elt F) f
      (ReadAs.same.apply ((Memref.whole main_arg3_scv).view.read (Elt F) X)) Finset.univ) = X :=
  View.write_whole_univ (Val := Elt F) cc0_scratch1 f X

section Ends
variable (M DM SV : ℕ → F .f32)

/-- The ring primed is the state before the first step. -/
theorem primed (a : BitVec 32) :
    iprop(Transfers.MayWaits (tV d L) (default : HIx 1) O ∗ owing d L O W
      ∗ bufAt d L cc0_scratch2 (fun y => M (y 0).val) ∗ bufAt d L cc0_scratch3 (fun y => DM (y 0).val) ∗ bufAt d L cc0_scratch4 (fun y => SV (y 0).val)
      ∗ inFlight d L cc0_scratch15.sem (Memref.whole cc0_scratch5) (cVal d L C 0) (cCh d L q C 0)
      ∗ inFlight d L cc0_scratch16.sem (Memref.whole cc0_scratch6) (cVal d L C 1) (cCh d L q C 1)
      ∗ inFlight d L cc0_scratch17.sem (Memref.whole cc0_scratch7) (cVal d L C 2) (cCh d L q C 2)
      ∗ inFlight d L cc0_scratch18.sem (Memref.whole cc0_scratch8) (cVal d L C 3) (cCh d L q C 3)
      ∗ inFlight d L cc0_scratch19.sem (Memref.whole cc0_scratch9) (eVal d L E 0) (eCh d L E 0)
      ∗ inFlight d L cc0_scratch20.sem (Memref.whole cc0_scratch10) (eVal d L E 1) (eCh d L E 1)
      ∗ inFlight d L cc0_scratch21.sem (Memref.whole cc0_scratch11) (eVal d L E 2) (eCh d L E 2)
      ∗ inFlight d L cc0_scratch22.sem (Memref.whole cc0_scratch12) (eVal d L E 3) (eCh d L E 3)
      ∗ freeSlot d L cc0_scratch23.sem (Memref.whole cc0_scratch13) ∗ freeSlot d L cc0_scratch24.sem (Memref.whole cc0_scratch14)
      ∗ bigSep (fromC 4) (cCh d L q C) ∗ bigSep (fromC 4) (eCh d L E) ∗ bigSep Finset.univ (fun n => iprop(∃ f, oCh d L f n)) : sProp 𝕄)
      ⊢ stepInv d L O W M DM SV q C E G 0 a := by
  unfold stepInv
  rw [inSlot_lt _ _ _ _ _ _ _ (show 4 * 0 + 0 < 128 by omega), inSlot_lt _ _ _ _ _ _ _ (show 4 * 0 + 0 < 128 by omega),
    inSlot_lt _ _ _ _ _ _ _ (show 4 * 0 + 1 < 128 by omega), inSlot_lt _ _ _ _ _ _ _ (show 4 * 0 + 1 < 128 by omega),
    inSlot_lt _ _ _ _ _ _ _ (show 4 * 0 + 2 < 128 by omega), inSlot_lt _ _ _ _ _ _ _ (show 4 * 0 + 2 < 128 by omega),
    inSlot_lt _ _ _ _ _ _ _ (show 4 * 0 + 3 < 128 by omega), inSlot_lt _ _ _ _ _ _ _ (show 4 * 0 + 3 < 128 by omega),
    outSlot_lt _ _ _ _ _ _ (show 4 * 0 < 2 by omega), outSlot_lt _ _ _ _ _ _ (show 4 * 0 + 1 < 2 by omega),
    show belowC (4 * 0) = ∅ from belowC_zero, show fromC (4 * 0) = Finset.univ from fromC_zero, bigSep_empty, bigSep_empty, bigSep_empty]
  iintro ⟨#Hmw, HO, H2, H3, H4, Hc0, Hc1, Hc2, Hc3, He0, He1, He2, He3, Ho0, Ho1, HC, HE, HF⟩
  isplitr; · iexact Hmw
  isplitl [HO]; · iexact HO
  isplitl [H2]; · iexact H2
  isplitl [H3]; · iexact H3
  isplitl [H4]; · iexact H4
  isplitl [Hc0]; · iexact Hc0
  isplitl [Hc1]; · iexact Hc1
  isplitl [Hc2]; · iexact Hc2
  isplitl [Hc3]; · iexact Hc3
  isplitl [He0]; · iexact He0
  isplitl [He1]; · iexact He1
  isplitl [He2]; · iexact He2
  isplitl [He3]; · iexact He3
  isplitl [Ho0]; · iexact Ho0
  isplitl [Ho1]; · iexact Ho1
  isplitl [HC]; · iexact HC
  isplitl [HE]; · iexact HE
  isplitr; · iempintro
  isplitr; · iempintro
  isplitl [HF]; · iexact HF
  iempintro

/-- The state after the last step. -/
theorem drained (a : BitVec 32) :
    stepInv d L O W M DM SV q C E G 32 a
      ⊢ iprop(Transfers.MayWaits (tV d L) (default : HIx 1) O ∗ owing d L O W
      ∗ bufAt d L cc0_scratch2 (fun y => M (y 0).val) ∗ bufAt d L cc0_scratch3 (fun y => DM (y 0).val) ∗ bufAt d L cc0_scratch4 (fun y => SV (y 0).val)
      ∗ freeSlot d L cc0_scratch15.sem (Memref.whole cc0_scratch5) ∗ freeSlot d L cc0_scratch16.sem (Memref.whole cc0_scratch6)
      ∗ freeSlot d L cc0_scratch17.sem (Memref.whole cc0_scratch7) ∗ freeSlot d L cc0_scratch18.sem (Memref.whole cc0_scratch8)
      ∗ freeSlot d L cc0_scratch19.sem (Memref.whole cc0_scratch9) ∗ freeSlot d L cc0_scratch20.sem (Memref.whole cc0_scratch10)
      ∗ freeSlot d L cc0_scratch21.sem (Memref.whole cc0_scratch11) ∗ freeSlot d L cc0_scratch22.sem (Memref.whole cc0_scratch12)
      ∗ outFlight d L cc0_scratch23.sem (Memref.whole cc0_scratch13) G ⟨126, by omega⟩ ∗ outFlight d L cc0_scratch24.sem (Memref.whole cc0_scratch14) G ⟨127, by omega⟩
      ∗ bigSep Finset.univ (cCh d L q C) ∗ bigSep Finset.univ (eCh d L E) ∗ bigSep (belowC 126) (oCh d L G)) := by
  unfold stepInv
  rw [inSlot_ge _ _ _ _ _ _ _ (show ¬ 4 * 32 + 0 < 128 by omega), inSlot_ge _ _ _ _ _ _ _ (show ¬ 4 * 32 + 0 < 128 by omega),
    inSlot_ge _ _ _ _ _ _ _ (show ¬ 4 * 32 + 1 < 128 by omega), inSlot_ge _ _ _ _ _ _ _ (show ¬ 4 * 32 + 1 < 128 by omega),
    inSlot_ge _ _ _ _ _ _ _ (show ¬ 4 * 32 + 2 < 128 by omega), inSlot_ge _ _ _ _ _ _ _ (show ¬ 4 * 32 + 2 < 128 by omega),
    inSlot_ge _ _ _ _ _ _ _ (show ¬ 4 * 32 + 3 < 128 by omega), inSlot_ge _ _ _ _ _ _ _ (show ¬ 4 * 32 + 3 < 128 by omega),
    show 4 * 32 + 1 = (⟨127, by omega⟩ : Fin 128).val + 2 from rfl, outSlot_succ,
    show 4 * 32 - 2 = 126 from rfl, show 4 * 32 = (⟨126, by omega⟩ : Fin 128).val + 2 from rfl, outSlot_succ,
    show (⟨126, by omega⟩ : Fin 128).val + 2 = 128 from rfl, belowC_top]
  iintro ⟨#Hmw, HO, H2, H3, H4, Hc0, Hc1, Hc2, Hc3, He0, He1, He2, He3, Ho0, Ho1, -, -, HC, HE, -, HG⟩
  isplitr; · iexact Hmw
  isplitl [HO]; · iexact HO
  isplitl [H2]; · iexact H2
  isplitl [H3]; · iexact H3
  isplitl [H4]; · iexact H4
  isplitl [Hc0]; · iexact Hc0
  isplitl [Hc1]; · iexact Hc1
  isplitl [Hc2]; · iexact Hc2
  isplitl [Hc3]; · iexact Hc3
  isplitl [He0]; · iexact He0
  isplitl [He1]; · iexact He1
  isplitl [He2]; · iexact He2
  isplitl [He3]; · iexact He3
  isplitl [Ho0]; · iexact Ho0
  isplitl [Ho1]; · iexact Ho1
  isplitl [HC]; · iexact HC
  isplitl [HE]; · iexact HE
  iexact HG

end Ends

variable (MU : Buf (Elt F) ((tV d L).loc main_arg2_scv)) (LV : Buf (Elt F) ((tV d L).loc main_arg3_scv))

set_option maxHeartbeats 1000000 in
theorem tile_run (hG : ∀ n, (oSl L n).view.read (Elt F) G
      = mix (mAt MU (trow L)) (dAt MU (trow L)) (sAt LV (trow L)) (cVal d L C n) (eVal d L E n)) :
    iprop(Transfers.MayWaits (tV d L) (default : HIx 1) O ∗ owes (tV d L) O W
      ∗ ((Memref.whole main_arg2_scv).view.loc (tV d L) ↦{q} MU) ∗ ((Memref.whole main_arg3_scv).view.loc (tV d L) ↦{q} LV)
      ∗ bigSep Finset.univ (cCh d L q C) ∗ bigSep Finset.univ (eCh d L E) ∗ bigSep Finset.univ (fun n => iprop(∃ f, oCh d L f n))
      ∗ freeSlot d L cc0_scoped0.sem (Memref.whole cc0_scratch0) ∗ freeSlot d L cc0_scoped1.sem (Memref.whole cc0_scratch1)
      ∗ (∃ f, bufAt d L cc0_scratch2 f) ∗ (∃ f, bufAt d L cc0_scratch3 f) ∗ (∃ f, bufAt d L cc0_scratch4 f)
      ∗ freeSlot d L cc0_scratch15.sem (Memref.whole cc0_scratch5) ∗ freeSlot d L cc0_scratch16.sem (Memref.whole cc0_scratch6)
      ∗ freeSlot d L cc0_scratch17.sem (Memref.whole cc0_scratch7) ∗ freeSlot d L cc0_scratch18.sem (Memref.whole cc0_scratch8)
      ∗ freeSlot d L cc0_scratch19.sem (Memref.whole cc0_scratch9) ∗ freeSlot d L cc0_scratch20.sem (Memref.whole cc0_scratch10)
      ∗ freeSlot d L cc0_scratch21.sem (Memref.whole cc0_scratch11) ∗ freeSlot d L cc0_scratch22.sem (Memref.whole cc0_scratch12)
      ∗ freeSlot d L cc0_scratch23.sem (Memref.whole cc0_scratch13) ∗ freeSlot d L cc0_scratch24.sem (Memref.whole cc0_scratch14) : sProp 𝕄)
    ⊢ wp frame (wpE (defs₀ (F := F)) 𝒱₀ (tV d L) none) Set.univ (kern L) fun _ =>
      iprop(owing d L O W
      ∗ ((Memref.whole main_arg2_scv).view.loc (tV d L) ↦{q} MU) ∗ ((Memref.whole main_arg3_scv).view.loc (tV d L) ↦{q} LV)
      ∗ bigSep Finset.univ (cCh d L q C) ∗ bigSep Finset.univ (eCh d L E) ∗ bigSep Finset.univ (oCh d L G)
      ∗ freeSlot d L cc0_scoped0.sem (Memref.whole cc0_scratch0) ∗ freeSlot d L cc0_scoped1.sem (Memref.whole cc0_scratch1)
      ∗ (∃ f, bufAt d L cc0_scratch2 f) ∗ (∃ f, bufAt d L cc0_scratch3 f) ∗ (∃ f, bufAt d L cc0_scratch4 f)
      ∗ freeSlot d L cc0_scratch15.sem (Memref.whole cc0_scratch5) ∗ freeSlot d L cc0_scratch16.sem (Memref.whole cc0_scratch6)
      ∗ freeSlot d L cc0_scratch17.sem (Memref.whole cc0_scratch7) ∗ freeSlot d L cc0_scratch18.sem (Memref.whole cc0_scratch8)
      ∗ freeSlot d L cc0_scratch19.sem (Memref.whole cc0_scratch9) ∗ freeSlot d L cc0_scratch20.sem (Memref.whole cc0_scratch10)
      ∗ freeSlot d L cc0_scratch21.sem (Memref.whole cc0_scratch11) ∗ freeSlot d L cc0_scratch22.sem (Memref.whole cc0_scratch12)
      ∗ freeSlot d L cc0_scratch23.sem (Memref.whole cc0_scratch13) ∗ freeSlot d L cc0_scratch24.sem (Memref.whole cc0_scratch14)) := by
  unfold kern
  rw [cc0__sc_kernel_eq_skeleton]
  unfold cc0__sc_kernel_skel
  iintro ⟨#Hmw, HO, Hmu, Hlv, HC, HE, HF, ⟨Hs0, ⟨%f0, Hb0⟩⟩, ⟨Hs1, ⟨%f1, Hb1⟩⟩, ⟨%f2, H2⟩, ⟨%f3, H3⟩, ⟨%f4, H4⟩, Hc0, Hc1, Hc2, Hc3, He0, He1, He2, He3, Ho0, Ho1⟩
  ihave HC := (Entails.of_eq (four (cCh d L q C))) $$ HC
  icases HC with ⟨Hcn0, Hcn1, Hcn2, Hcn3, HC⟩
  ihave HE := (Entails.of_eq (four (eCh d L E))) $$ HE
  icases HE with ⟨Hen0, Hen1, Hen2, Hen3, HE⟩
  sl_exec_parts
  have oc0 : k0_off3 L 0#32 = cOff L 0 := off3_eq L 0
  have nc0 : ∀ a, k0_off3 L 0#32 a + S2048.size a ≤ S1048576.size a := k0_off3_inb L 0
  iapply (wp_start d L (cWin (k0_off3 L 0#32) nc0) (Memref.whole cc0_scratch5) cc0_scratch15.sem q C (cVal d L C 0) _ (cWin_pts d L q C 0 _ _ oc0)
    (fun fd => by rw [cWin_read d L C 0 _ _ oc0]; exact View.write_whole_univ ..) (by decide)) $$ [Hc0 Hcn0]
  · isplitl [Hc0]
    · iexact Hc0
    · iexact Hcn0
  iintro Hc0
  try sl_exec
  try dsimp only
  have oe0 : k0_off4 L 0#32 = eOff L 0 := off4_eq L 0
  have ne0 : ∀ a, k0_off4 L 0#32 a + S1x16x8x128.size a ≤ S8x8192x8x128.size a := k0_off4_inb L 0
  iapply (wp_start d L (eWin (k0_off4 L 0#32) ne0) (Memref.whole cc0_scratch9) cc0_scratch19.sem fullShare E (eVal d L E 0) _ (eWin_pts d L E 0 _ _ oe0)
    (fun fd => by rw [eWin_read d L E 0 _ _ oe0]; exact View.write_whole_univ ..) (by decide)) $$ [He0 Hen0]
  · isplitl [He0]
    · iexact He0
    · iexact Hen0
  iintro He0
  try sl_exec
  try dsimp only
  have oc1 : k0_off3 L 16#32 = cOff L 1 := off3_eq L 1
  have nc1 : ∀ a, k0_off3 L 16#32 a + S2048.size a ≤ S1048576.size a := k0_off3_inb L 1
  iapply (wp_start d L (cWin (k0_off3 L 16#32) nc1) (Memref.whole cc0_scratch6) cc0_scratch16.sem q C (cVal d L C 1) _ (cWin_pts d L q C 1 _ _ oc1)
    (fun fd => by rw [cWin_read d L C 1 _ _ oc1]; exact View.write_whole_univ ..) (by decide)) $$ [Hc1 Hcn1]
  · isplitl [Hc1]
    · iexact Hc1
    · iexact Hcn1
  iintro Hc1
  try sl_exec
  try dsimp only
  have oe1 : k0_off4 L 16#32 = eOff L 1 := off4_eq L 1
  have ne1 : ∀ a, k0_off4 L 16#32 a + S1x16x8x128.size a ≤ S8x8192x8x128.size a := k0_off4_inb L 1
  iapply (wp_start d L (eWin (k0_off4 L 16#32) ne1) (Memref.whole cc0_scratch10) cc0_scratch20.sem fullShare E (eVal d L E 1) _ (eWin_pts d L E 1 _ _ oe1)
    (fun fd => by rw [eWin_read d L E 1 _ _ oe1]; exact View.write_whole_univ ..) (by decide)) $$ [He1 Hen1]
  · isplitl [He1]
    · iexact He1
    · iexact Hen1
  iintro He1
  try sl_exec
  try dsimp only
  have oc2 : k0_off3 L 32#32 = cOff L 2 := off3_eq L 2
  have nc2 : ∀ a, k0_off3 L 32#32 a + S2048.size a ≤ S1048576.size a := k0_off3_inb L 2
  iapply (wp_start d L (cWin (k0_off3 L 32#32) nc2) (Memref.whole cc0_scratch7) cc0_scratch17.sem q C (cVal d L C 2) _ (cWin_pts d L q C 2 _ _ oc2)
    (fun fd => by rw [cWin_read d L C 2 _ _ oc2]; exact View.write_whole_univ ..) (by decide)) $$ [Hc2 Hcn2]
  · isplitl [Hc2]
    · iexact Hc2
    · iexact Hcn2
  iintro Hc2
  try sl_exec
  try dsimp only
  have oe2 : k0_off4 L 32#32 = eOff L 2 := off4_eq L 2
  have ne2 : ∀ a, k0_off4 L 32#32 a + S1x16x8x128.size a ≤ S8x8192x8x128.size a := k0_off4_inb L 2
  iapply (wp_start d L (eWin (k0_off4 L 32#32) ne2) (Memref.whole cc0_scratch11) cc0_scratch21.sem fullShare E (eVal d L E 2) _ (eWin_pts d L E 2 _ _ oe2)
    (fun fd => by rw [eWin_read d L E 2 _ _ oe2]; exact View.write_whole_univ ..) (by decide)) $$ [He2 Hen2]
  · isplitl [He2]
    · iexact He2
    · iexact Hen2
  iintro He2
  iapply (ret_done d L)
  try sl_exec
  have oc3 : k0_off3 L 48#32 = cOff L 3 := off3_eq L 3
  have nc3 : ∀ a, k0_off3 L 48#32 a + S2048.size a ≤ S1048576.size a := k0_off3_inb L 3
  iapply (wp_start d L (cWin (k0_off3 L 48#32) nc3) (Memref.whole cc0_scratch8) cc0_scratch18.sem q C (cVal d L C 3) _ (cWin_pts d L q C 3 _ _ oc3)
    (fun fd => by rw [cWin_read d L C 3 _ _ oc3]; exact View.write_whole_univ ..) (by decide)) $$ [Hc3 Hcn3]
  · isplitl [Hc3]
    · iexact Hc3
    · iexact Hcn3
  iintro Hc3
  try sl_exec
  try dsimp only
  have oe3 : k0_off4 L 48#32 = eOff L 3 := off4_eq L 3
  have ne3 : ∀ a, k0_off4 L 48#32 a + S1x16x8x128.size a ≤ S8x8192x8x128.size a := k0_off4_inb L 3
  iapply (wp_start d L (eWin (k0_off4 L 48#32) ne3) (Memref.whole cc0_scratch12) cc0_scratch22.sem fullShare E (eVal d L E 3) _ (eWin_pts d L E 3 _ _ oe3)
    (fun fd => by rw [eWin_read d L E 3 _ _ oe3]; exact View.write_whole_univ ..) (by decide)) $$ [He3 Hen3]
  · isplitl [He3]
    · iexact He3
    · iexact Hen3
  iintro He3
  try sl_exec
  try dsimp only
  iapply (Scf.wp_for_bind frame (wpE (defs₀ (F := F)) 𝒱₀ (tV d L) none) Set.univ k0_t1_loop.lb k0_t1_loop.ub k0_t1_loop.st k0_t1_ok 0#32 _
    (stepInv d L O W (mAt MU (trow L)) (dAt MU (trow L)) (sAt LV (trow L)) q C E G)
    (fun k acc => step d L O W (mAt MU (trow L)) (dAt MU (trow L)) (sAt LV (trow L)) q C E G hG _ k acc)) $$ [HO H2 H3 H4 Hc0 Hc1 Hc2 Hc3 He0 He1 He2 He3 Ho0 Ho1 HC HE HF]
  · iapply (primed d L O W q C E G (mAt MU (trow L)) (dAt MU (trow L)) (sAt LV (trow L)) _)
    isplitr; · iexact Hmw
    isplitl [HO]; · iapply (owing_two d L O W (fun p hp => Or.inl hp) _ _) $$ HO
    isplitl [H2]
    · iapply (Entails.of_eq (congrArg (bufAt d L cc0_scratch2) ?tab)) $$ H2
      case tab =>
        refine TabPieces.done2 ?_
        sl_unfold_run_names
        iterate 8 refine TabPieces.push (p := trow L % 2) (by clear * - L; clear tile_run LV MU G E C; revert L; decide +kernel) (Nat.mod_lt _ (by decide)) (by decide) (lane_m L _ (back0 ..) (off1_eq L) (by decide)) ?_
        exact .nil
    isplitl [H3]
    · iapply (Entails.of_eq (congrArg (bufAt d L cc0_scratch3) ?tab)) $$ H3
      case tab =>
        refine TabPieces.done3 ?_
        sl_unfold_run_names
        iterate 8 refine TabPieces.push (p := trow L % 2) (by clear * - L; clear tile_run LV MU G E C; revert L; decide +kernel) (Nat.mod_lt _ (by decide)) (by decide) (lane_d L _ (back0 ..) (off1_eq L) (off2_eq L) (by decide)) ?_
        exact .nil
    isplitl [H4]
    · iapply (Entails.of_eq (congrArg (bufAt d L cc0_scratch4) ?tab)) $$ H4
      case tab =>
        refine TabPieces.done4 ?_
        sl_unfold_run_names
        iterate 8 refine TabPieces.push (p := trow L % 2) (by clear * - L; clear tile_run LV MU G E C; revert L; decide +kernel) (Nat.mod_lt _ (by decide)) (by decide) (lane_s L _ (back1 ..) (off1_eq L) (by decide)) ?_
        exact .nil
    isplitl [Hc0]; · iexact Hc0
    isplitl [Hc1]; · iexact Hc1
    isplitl [Hc2]; · iexact Hc2
    isplitl [Hc3]; · iexact Hc3
    isplitl [He0]; · iexact He0
    isplitl [He1]; · iexact He1
    isplitl [He2]; · iexact He2
    isplitl [He3]; · iexact He3
    isplitl [Ho0]; · iexact Ho0
    isplitl [Ho1]; · iexact Ho1
    isplitl [HC]; · iexact HC
    isplitl [HE]; · iexact HE
    iexact HF
  iintro %acc H
  ihave H' := (show stepInv d L O W (mAt MU (trow L)) (dAt MU (trow L)) (sAt LV (trow L)) q C E G (Scf.trips k0_t1_loop.lb k0_t1_loop.ub k0_t1_loop.st) acc ⊢ _ from
    drained d L O W q C E G (mAt MU (trow L)) (dAt MU (trow L)) (sAt LV (trow L)) acc) $$ H
  icases H' with ⟨-, HO, H2, H3, H4, Hc0, Hc1, Hc2, Hc3, He0, He1, He2, He3, Ho0, Ho1, HC, HE, HG⟩
  simp only [Prog.lift, Prog.bind_op]
  iapply (waitOut d L O W 126 (by omega) (Memref.whole cc0_scratch13) cc0_scratch23.sem G (k0_off4 L 2016#32) (k0_off4_inb L 4) _) $$ [HO Ho0 HG]
  · isplitr; · iexact Hmw
    isplitl [HO]; · iexact HO
    isplitl [Ho0]; · iexact Ho0
    iexact HG
  iintro ⟨HO, Ho0, HG⟩
  try dsimp only [Prog.bind_ret]
  iapply (waitOut d L O W 127 (by omega) (Memref.whole cc0_scratch14) cc0_scratch24.sem G (k0_off4 L 2032#32) (k0_off4_inb L 5) _) $$ [HO Ho1 HG]
  · isplitr; · iexact Hmw
    isplitl [HO]; · iexact HO
    isplitl [Ho1]; · iexact Ho1
    iexact HG
  iintro ⟨HO, Ho1, HG⟩
  iapply (ret_done d L)
  isplitl [HO]; · iexact HO
  isplitl [Hmu]; · iexact Hmu
  isplitl [Hlv]; · iexact Hlv
  isplitl [HC]; · iexact HC
  isplitl [HE]; · iexact HE
  isplitl [HG]; · iapply (Entails.of_eq (congrArg (fun s => bigSep s (oCh d L G)) belowC_top)) $$ HG
  isplitl [Hs0 Hb0]
  · isplitl [Hs0]; · iexact Hs0
    iexists _; iexact Hb0
  isplitl [Hs1 Hb1]
  · isplitl [Hs1]; · iexact Hs1
    iexists _; iexact Hb1
  isplitl [H2]; · iexists _; iexact H2
  isplitl [H3]; · iexists _; iexact H3
  isplitl [H4]; · iexists _; iexact H4
  isplitl [Hc0]; · iexact Hc0
  isplitl [Hc1]; · iexact Hc1
  isplitl [Hc2]; · iexact Hc2
  isplitl [Hc3]; · iexact Hc3
  isplitl [He0]; · iexact He0
  isplitl [He1]; · iexact He1
  isplitl [He2]; · iexact He2
  isplitl [He3]; · iexact He3
  isplitl [Ho0]; · iexact Ho0
  iexact Ho1

end Tile

end Cert.Proof.Mix

end
-- ==== Proof.Out.lean ====
/-
  The value of the kernel's output array as one function of its four operands, and how the chunks of the tiles lie in the
  arrays: the (SparseCore, tile, chunk) windows of the noise and of the output are disjoint and cover the array, and a tile's
  windows of the indicator vector are disjoint.
-/
module

public import proofs.«01_k».proof.Proof.Tab
public import proofs.«01_k».proof.Proof.Step
public import Idealize.ShloMosaic.Lib.Pipeline.Value
public import Idealize.ShloMosaic.Lib.Pipeline.ValueKit.Geometry
public import Idealize.ShloMosaic.Lib.ValueLayout

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Where the indicator of an output position lies. -/
def flat (x : S8x8192x8x128.Idx) : S1048576.Idx := fun a =>
  ⟨128 * (x 1).val + (x 3).val, by
    have h1 : (x 1).val < 8192 := (x 1).isLt
    have h3 : (x 3).val < 128 := (x 3).isLt
    have ha : a = 0 := Subsingleton.elim _ _
    subst ha
    show _ < 1048576
    omega⟩

/-- The kernel's output, from the two tables, the indicators and the noise. -/
def outG (MU LV : S2x64.Idx → F .f32) (C : S1048576.Idx → Elt F .i32) (E : S8x8192x8x128.Idx → F .f32)
    (x : S8x8192x8x128.Idx) : F .f32 :=
  FloatOps.addf (FloatOps.addf (mAt MU (x 0).val (x 2).val) (FloatOps.mulf (FloatOps.sitofp .f32 (C (flat x))) (dAt MU (x 0).val (x 2).val)))
    (FloatOps.mulf (E x) (sAt LV (x 0).val (x 2).val))

/-- Where element `y` of chunk `n` lies in the noise and in the output. -/
def ePos (L : grid0.Coords) (n : Fin 128) (y : S16x8x128.Idx) : S8x8192x8x128.Idx :=
  (Rect.unit (s := S8x8192x8x128) (eOff L n) S1x16x8x128.size (eOff_inb L n)).emb
    (ValueIdx.ix4 (0 : Fin 1) (⟨(y 0).val, (y 0).isLt⟩ : Fin 16) (⟨(y 1).val, (y 1).isLt⟩ : Fin 8) (⟨(y 2).val, (y 2).isLt⟩ : Fin 128))

theorem ePos_val (L : grid0.Coords) (n : Fin 128) (y : S16x8x128.Idx) :
    (ePos L n y 0).val = trow L ∧ (ePos L n y 1).val = tcol L + 16 * n.val + (y 0).val ∧ (ePos L n y 2).val = (y 1).val
      ∧ (ePos L n y 3).val = (y 2).val := by
  refine ⟨?_, ?_, ?_, ?_⟩
  · refine (ValueKit.rect_emb_unit_val _ _ _ _ 0).trans ?_; show trow L + 0 = _; rfl
  · refine (ValueKit.rect_emb_unit_val _ _ _ _ 1).trans ?_; rfl
  · refine (ValueKit.rect_emb_unit_val _ _ _ _ 2).trans ?_; show 0 + (y 1).val = _; omega
  · refine (ValueKit.rect_emb_unit_val _ _ _ _ 3).trans ?_; show 0 + (y 2).val = _; omega

theorem squeeze_apply (f : S1x16x8x128.Idx → F .f32) (h : S1x16x8x128.ShapeCasts S16x8x128) (y : S16x8x128.Idx) :
    shapeCast S16x8x128 f h y
      = f (ValueIdx.ix4 (0 : Fin 1) (⟨(y 0).val, (y 0).isLt⟩ : Fin 16) (⟨(y 1).val, (y 1).isLt⟩ : Fin 8) (⟨(y 2).val, (y 2).isLt⟩ : Fin 128)) := by
  refine shapeCast_apply f h y _ ?_
  rw [Shape.rowMajor_val_four, Shape.rowMajor_val_three]
  show (((0 * 16 + (y 0).val) * 8 + (y 1).val) * 128 + (y 2).val) = ((y 0).val * 8 + (y 1).val) * 128 + (y 2).val
  omega

theorem oSl_read (L : grid0.Coords) (n : Fin 128) (G : S8x8192x8x128.Idx → F .f32) (y : S16x8x128.Idx) :
    (oSl L n).view.read (Elt F) G y = G (ePos L n y) :=
  squeeze_apply (fun z => G ((Rect.unit (s := S8x8192x8x128) (eOff L n) S1x16x8x128.size (eOff_inb L n)).emb z))
    squeezes_S1x16x8x128_S16x8x128.numel_eq y

theorem eSl_read (L : grid0.Coords) (n : Fin 128) (E : S8x8192x8x128.Idx → F .f32) (y : S16x8x128.Idx) :
    (eSl L n).view.read (Elt F) E y = E (ePos L n y) :=
  squeeze_apply (fun z => E ((Rect.unit (s := S8x8192x8x128) (eOff L n) S1x16x8x128.size (eOff_inb L n)).emb z))
    squeezes_S1x16x8x128_S16x8x128.numel_eq y

theorem cSl_read (L : grid0.Coords) (n : Fin 128) (C : S1048576.Idx → Elt F .i32) (y : S16x8x128.Idx) :
    (cSl L n).view.read (Elt F) C (cIdx y) = C (flat (ePos L n y)) := by
  show C ((Rect.unit (s := S1048576) (cOff L n) S2048.size (cOff_inb L n)).emb (cIdx y)) = _
  refine congrArg C (funext fun a => Fin.ext ?_)
  have ha : a = 0 := Subsingleton.elim _ _
  subst ha
  obtain ⟨-, h1, -, h3⟩ := ePos_val L n y
  refine (ValueKit.rect_emb_unit_val _ _ _ _ 0).trans ?_
  show (tcol L + 16 * n.val) * 128 + (128 * (y 0).val + (y 2).val) = 128 * (ePos L n y 1).val + (ePos L n y 3).val
  rw [h1, h3]; omega

/-- A chunk of the output is the tile's own `mix` of its chunk's indicators and noise. -/
theorem outG_chunk (d : Dev nD) (L : grid0.Coords) (MU LV : S2x64.Idx → F .f32) (C : S1048576.Idx → Elt F .i32)
    (E : S8x8192x8x128.Idx → F .f32) (n : Fin 128) :
    (oSl L n).view.read (Elt F) (outG MU LV C E)
      = mix (mAt MU (trow L)) (dAt MU (trow L)) (sAt LV (trow L)) (cVal d L C n) (eVal d L E n) := by
  funext y
  obtain ⟨h0, -, h2, -⟩ := ePos_val L n y
  rw [oSl_read]
  unfold outG mix
  rw [h0, h2]
  rw [show cVal d L C n (cIdx y) = C (flat (ePos L n y)) from cSl_read L n C y, show eVal d L E n y = E (ePos L n y) from eSl_read L n E y]

/-! ## The windows -/

/-- A chunk's window of the noise and of the output; of the indicators. -/
abbrev eSet (L : grid0.Coords) (n : Fin 128) : Finset S8x8192x8x128.Idx :=
  (Rect.unit (s := S8x8192x8x128) (eOff L n) S1x16x8x128.size (eOff_inb L n)).set
abbrev cSet (L : grid0.Coords) (n : Fin 128) : Finset S1048576.Idx :=
  (Rect.unit (s := S1048576) (cOff L n) S2048.size (cOff_inb L n)).set

theorem eSl_set (L : grid0.Coords) (n : Fin 128) : (eSl L n).view.set = eSet L n := by
  refine (View.set_reshape _ _).trans ?_
  exact View.set_slice_whole main_v1_scv _
theorem oSl_set (L : grid0.Coords) (n : Fin 128) : (oSl L n).view.set = eSet L n := by
  refine (View.set_reshape _ _).trans ?_
  exact View.set_slice_whole main_v2_scv _
theorem cSl_set (L : grid0.Coords) (n : Fin 128) : (cSl L n).view.set = cSet L n :=
  View.set_slice_whole main_arg0_scv _

theorem mem_eSet (L : grid0.Coords) (n : Fin 128) (x : S8x8192x8x128.Idx) :
    x ∈ eSet L n ↔ (x 0).val = trow L ∧ tcol L + 16 * n.val ≤ (x 1).val ∧ (x 1).val < tcol L + 16 * n.val + 16 := by
  unfold eSet
  rw [Rect.mem_set_unit]
  have h2 : (x 2).val < 8 := (x 2).isLt
  have h3 : (x 3).val < 128 := (x 3).isLt
  constructor
  · intro h
    have a0 : trow L ≤ (x 0).val ∧ (x 0).val < trow L + 1 := h 0
    have a1 : tcol L + 16 * n.val ≤ (x 1).val ∧ (x 1).val < tcol L + 16 * n.val + 16 := h 1
    exact ⟨by omega, a1⟩
  · rintro ⟨a0, a1⟩ a
    match a with
    | ⟨0, _⟩ => show trow L ≤ (x 0).val ∧ (x 0).val < trow L + 1; omega
    | ⟨1, _⟩ => exact a1
    | ⟨2, _⟩ => show 0 ≤ (x 2).val ∧ (x 2).val < 0 + 8; omega
    | ⟨3, _⟩ => show 0 ≤ (x 3).val ∧ (x 3).val < 0 + 128; omega

theorem cSet_disjoint (L : grid0.Coords) : ∀ n ∈ (Finset.univ : Finset (Fin 128)), ∀ n' ∈ (Finset.univ : Finset (Fin 128)), n ≠ n' →
    Disjoint (cSet L n) (cSet L n') := fun n _ n' _ hne => by
  have : n.val ≠ n'.val := fun e => hne (Fin.ext e)
  refine Rect.unit_disjoint (s := S1048576) 0 ?_
  show (tcol L + 16 * n.val) * 128 + 2048 ≤ (tcol L + 16 * n'.val) * 128 ∨ (tcol L + 16 * n'.val) * 128 + 2048 ≤ (tcol L + 16 * n.val) * 128
  omega

/-- The tile at number `i` of SparseCore number `c`. -/
def crd (c : Fin (grid0.bound 0)) (i : Fin (grid0.bound 1)) : grid0.Coords :=
  fun | 0 => c | 1 => i | ⟨_ + 2, h⟩ => absurd h (Nat.not_lt.2 (Nat.le_add_left _ _))

theorem wid_crd (c : Fin (grid0.bound 0)) (i : Fin (grid0.bound 1)) : wid (crd c i) = 2 * i.val + c.val := rfl

/-- The chunks of all the tiles. -/
abbrev Ch : Type := Fin (grid0.bound 0) × Fin (grid0.bound 1) × Fin 128
abbrev chSet (t : Ch) : Finset S8x8192x8x128.Idx := eSet (crd t.1 t.2.1) t.2.2

theorem chSet_disjoint : ∀ t ∈ (Finset.univ : Finset Ch), ∀ t' ∈ (Finset.univ : Finset Ch), t ≠ t' → Disjoint (chSet t) (chSet t') := by
  rintro ⟨c, i, n⟩ _ ⟨c', i', n'⟩ _ hne
  refine Finset.disjoint_left.mpr fun x h h' => hne ?_
  obtain ⟨a0, a1, a2⟩ := (mem_eSet _ _ x).mp h
  obtain ⟨b0, b1, b2⟩ := (mem_eSet _ _ x).mp h'
  have hc : c.val < 2 := c.isLt
  have hc' : c'.val < 2 := c'.isLt
  have hn := n.isLt; have hn' := n'.isLt
  unfold trow tcol at *
  simp only [wid_crd] at *
  have e0 : c.val = c'.val := by omega
  have e1 : i.val = i'.val := by omega
  have e2 : n.val = n'.val := by omega
  rw [Fin.ext e0, Fin.ext e1, Fin.ext e2]

theorem chSet_at (x : S8x8192x8x128.Idx) : ∃ t : Ch, x ∈ chSet t := by
  have h0 : (x 0).val < 8 := (x 0).isLt
  have h1 : (x 1).val < 8192 := (x 1).isLt
  have hw : 4 * (x 0).val + (x 1).val / 2048 < 32 := by omega
  have k0 : (4 * (x 0).val + (x 1).val / 2048) % 2 < grid0.bound 0 := show _ < 2 by omega
  have k1 : (4 * (x 0).val + (x 1).val / 2048) / 2 < grid0.bound 1 := show _ < 16 by omega
  refine ⟨(⟨_, k0⟩, ⟨_, k1⟩, ⟨(x 1).val % 2048 / 16, by omega⟩), (mem_eSet _ _ x).mpr ?_⟩
  unfold trow tcol
  simp only [wid_crd]
  omega

theorem chSet_cover : (Finset.univ : Finset Ch).biUnion chSet = Finset.univ := by
  ext x
  rw [Finset.mem_biUnion]
  obtain ⟨t, ht⟩ := chSet_at x
  exact ⟨fun _ => Finset.mem_univ x, fun _ => ⟨t, Finset.mem_univ t, ht⟩⟩

end Cert.Proof.Mix

end
-- ==== Proof.Slots.lean ====
/-
  A tile's own semaphores and scratch buffers, split out of what the launch hands its thread and given back.
-/
module

public import proofs.«01_k».proof.Proof.Ring

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.SparseCore.Cfg (ownBufs ownSems0 ownCells ownRefs mem_ownCells mem_ownRefs)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The semaphores of the copies, with the two of the tables' copies first. -/
def semAt : Fin 12 → DmaSem sig :=
  ![cc0_scoped0.sem, cc0_scoped1.sem, cc0_scratch15.sem, cc0_scratch16.sem, cc0_scratch17.sem, cc0_scratch18.sem, cc0_scratch19.sem,
    cc0_scratch20.sem, cc0_scratch21.sem, cc0_scratch22.sem, cc0_scratch23.sem, cc0_scratch24.sem]
/-- The scratch buffers: the copies' in the same order, then the three of the computed tables. -/
def bufOf : Fin 15 → Ref sig .scVector :=
  ![cc0_scratch0, cc0_scratch1, cc0_scratch5, cc0_scratch6, cc0_scratch7, cc0_scratch8, cc0_scratch9, cc0_scratch10, cc0_scratch11,
    cc0_scratch12, cc0_scratch13, cc0_scratch14, cc0_scratch2, cc0_scratch3, cc0_scratch4]

theorem semAt_inj : Function.Injective semAt := by decide
theorem semAt_scoped : ∀ k, (SemLoc.dma (semAt k) : SemLoc sig).isScoped .scVector = true := by decide
theorem bufOf_inj : Function.Injective bufOf := by decide

section Own
variable (d : Dev nD) (L : grid0.Coords)

/-- The tile's cells and buffers, as sets. -/
def myCells : Finset (GSem nD τ sig) := Finset.univ.map ⟨fun k : Fin 12 => (tV d L, SemLoc.dma (semAt k)),
  fun _ _ e => semAt_inj (SemLoc.dma.inj (Prod.mk.inj e).2)⟩
def myRefs : Finset (DevRef τ sig) := Finset.univ.map ⟨fun k : Fin 15 => (Proc.scVector (cV L) (wV L)).devRef (bufOf k),
  fun _ _ e => bufOf_inj (Proc.devRef_injective _ e)⟩

theorem myCells_sub : myCells d L ⊆ ownCells (tV d L) := by
  intro g hg
  obtain ⟨k, -, rfl⟩ := Finset.mem_map.mp hg
  exact mem_ownCells.mpr ⟨rfl, semAt_scoped k⟩
theorem bufOf_owner : ∀ k, ((Proc.scVector (cV L) (wV L)).devRef (bufOf k)).owner = .proc (Proc.scVector (cV L) (wV L)) := by
  intro k
  match k with
  | 0 | 1 | 2 | 3 | 4 | 5 | 6 | 7 | 8 | 9 | 10 | 11 | 12 | 13 | 14 => rfl
theorem myRefs_sub : myRefs L ⊆ ownRefs (τ := τ) (.scVector (cV L) (wV L)) := by
  intro b hb
  obtain ⟨k, -, rfl⟩ := Finset.mem_map.mp hb
  exact SparseCore.Cfg.mem_ownRefs_of_owner (bufOf_owner L k)

/-- What the tile's thread holds besides: not touched. -/
def restOwn : sProp 𝕄 :=
  iprop(bigSep (ownCells (tV d L) \ myCells d L) (fun g => semVal g 0)
    ∗ bigSep (ownRefs (τ := τ) (.scVector (cV L) (wV L)) \ myRefs L) (fun b => iprop(∃ f, ((d, b) : Loc nD τ sig) ↦{fullShare} f)))

abbrev cellAt (k : Fin 12) : sProp 𝕄 := semVal (tV d L, SemLoc.dma (semAt k)) 0
abbrev anyBuf (k : Fin 15) : sProp 𝕄 := iprop(∃ f, (tV d L).loc (bufOf k) ↦{fullShare} f)

theorem own_eq : (iprop(scopedBufs (tV d L) ∗ scopedSems0 (tV d L)) : sProp 𝕄)
    = iprop((bigSep Finset.univ (anyBuf (F := F) d L)
        ∗ bigSep (ownRefs (τ := τ) (.scVector (cV L) (wV L)) \ myRefs L) (fun b => iprop(∃ f, ((d, b) : Loc nD τ sig) ↦{fullShare} f)))
      ∗ (bigSep Finset.univ (cellAt (F := F) d L) ∗ bigSep (ownCells (tV d L) \ myCells d L) (fun g => semVal g 0))) := by
  rw [(K (F := F)).scopedBufs_V facts d (cV L) (wV L), SparseCore.Cfg.scopedSems0_V (Val := Elt F) d (cV L) (wV L)]
  unfold ownSems0 ownBufs
  rw [SparseCore.bigSep_sdiff_split' (myCells_sub d L), SparseCore.bigSep_sdiff_split' (myRefs_sub L)]
  unfold myCells myRefs
  rw [bigSep_map, bigSep_map]
  rfl

theorem fin12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  repeat rw [SparseCore.bigSep_insert' (by decide)]
  rw [bigSep_singleton]
theorem fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) := by
  rw [show (Finset.univ : Finset (Fin 15)) = {0, 1, 2, 3, 4, 5, 6, 7, 8, 9, 10, 11, 12, 13, 14} by decide]
  repeat rw [SparseCore.bigSep_insert' (by decide)]
  rw [bigSep_singleton]

/-- The slots of the copies and the computed tables' buffers, as the run of the body takes them. -/
abbrev slots : sProp 𝕄 :=
  iprop(freeSlot d L cc0_scoped0.sem (Memref.whole cc0_scratch0) ∗ freeSlot d L cc0_scoped1.sem (Memref.whole cc0_scratch1)
      ∗ (∃ f, bufAt d L cc0_scratch2 f) ∗ (∃ f, bufAt d L cc0_scratch3 f) ∗ (∃ f, bufAt d L cc0_scratch4 f)
      ∗ freeSlot d L cc0_scratch15.sem (Memref.whole cc0_scratch5) ∗ freeSlot d L cc0_scratch16.sem (Memref.whole cc0_scratch6)
      ∗ freeSlot d L cc0_scratch17.sem (Memref.whole cc0_scratch7) ∗ freeSlot d L cc0_scratch18.sem (Memref.whole cc0_scratch8)
      ∗ freeSlot d L cc0_scratch19.sem (Memref.whole cc0_scratch9) ∗ freeSlot d L cc0_scratch20.sem (Memref.whole cc0_scratch10)
      ∗ freeSlot d L cc0_scratch21.sem (Memref.whole cc0_scratch11) ∗ freeSlot d L cc0_scratch22.sem (Memref.whole cc0_scratch12)
      ∗ freeSlot d L cc0_scratch23.sem (Memref.whole cc0_scratch13) ∗ freeSlot d L cc0_scratch24.sem (Memref.whole cc0_scratch14))

theorem slots_in : (iprop(scopedBufs (tV d L) ∗ scopedSems0 (tV d L)) : sProp 𝕄) ⊢ iprop(slots (F := F) d L ∗ restOwn (F := F) d L) := by
  rw [own_eq, fin12, fin15]
  unfold restOwn
  iintro ⟨⟨⟨B0, B1, B5, B6, B7, B8, B9, B10, B11, B12, B13, B14, B2, B3, B4⟩, BR⟩, ⟨S0, S1, S5, S6, S7, S8, S9, S10, S11, S12, S13, S14⟩, SR⟩
  isplitr [SR BR]
  · isplitl [S0 B0]; · isplitl [S0]; · iexact S0
                       iexact B0
    isplitl [S1 B1]; · isplitl [S1]; · iexact S1
                       iexact B1
    isplitl [B2]; · iexact B2
    isplitl [B3]; · iexact B3
    isplitl [B4]; · iexact B4
    isplitl [S5 B5]; · isplitl [S5]; · iexact S5
                       iexact B5
    isplitl [S6 B6]; · isplitl [S6]; · iexact S6
                       iexact B6
    isplitl [S7 B7]; · isplitl [S7]; · iexact S7
                       iexact B7
    isplitl [S8 B8]; · isplitl [S8]; · iexact S8
                       iexact B8
    isplitl [S9 B9]; · isplitl [S9]; · iexact S9
                       iexact B9
    isplitl [S10 B10]; · isplitl [S10]; · iexact S10
                         iexact B10
    isplitl [S11 B11]; · isplitl [S11]; · iexact S11
                         iexact B11
    isplitl [S12 B12]; · isplitl [S12]; · iexact S12
                         iexact B12
    isplitl [S13 B13]; · isplitl [S13]; · iexact S13
                         iexact B13
    isplitl [S14]; · iexact S14
    iexact B14
  · isplitl [SR]; · iexact SR
    iexact BR

theorem slots_out : iprop(slots (F := F) d L ∗ restOwn (F := F) d L) ⊢ (iprop(scopedBufs (tV d L) ∗ scopedSems0 (tV d L)) : sProp 𝕄) := by
  rw [own_eq, fin12, fin15]
  unfold restOwn
  iintro ⟨⟨⟨S0, B0⟩, ⟨S1, B1⟩, B2, B3, B4, ⟨S5, B5⟩, ⟨S6, B6⟩, ⟨S7, B7⟩, ⟨S8, B8⟩, ⟨S9, B9⟩, ⟨S10, B10⟩, ⟨S11, B11⟩, ⟨S12, B12⟩, ⟨S13, B13⟩, ⟨S14, B14⟩⟩, SR, BR⟩
  isplitl [B0 B1 B2 B3 B4 B5 B6 B7 B8 B9 B10 B11 B12 B13 B14 BR]
  · isplitr [BR]
    · isplitl [B0]; · iexact B0
      isplitl [B1]; · iexact B1
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [B2]; · iexact B2
      isplitl [B3]; · iexact B3
      iexact B4
    · iexact BR
  · isplitr [SR]
    · isplitl [S0]; · iexact S0
      isplitl [S1]; · iexact S1
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      iexact S14
    · iexact SR

end Own

end Cert.Proof.Mix

end
-- ==== Proof.Payload.lean ====
/-
  What the call's handshakes carry, and a tile's part of the launch: each tile takes read shares of the indicators and of the
  two tables, and its own chunks of the noise and of the output, and gives the output's chunks back at the kernel's value.
-/
module

public import proofs.«01_k».proof.Proof.Tile
public import proofs.«01_k».proof.Proof.Out
public import proofs.«01_k».proof.Proof.Slots

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The arrays and their values -/

abbrev aLoc (d : Dev nD) : Loc nD τ sig := (SparseCore.T d).loc main_arg0
abbrev xLoc (d : Dev nD) : Loc nD τ sig := (SparseCore.T d).loc main_arg1
abbrev uLoc (d : Dev nD) : Loc nD τ sig := (SparseCore.T d).loc main_arg2
abbrev wLoc (d : Dev nD) : Loc nD τ sig := (SparseCore.T d).loc main_arg3
abbrev eLoc (d : Dev nD) : Loc nD τ sig := (SparseCore.T d).loc main_v1
abbrev oLoc (d : Dev nD) : Loc nD τ sig := (SparseCore.T d).loc main_v2

/-- The noise in the kernel's layout. -/
def epsT (d : Dev nD) : Buf (Elt F) (eLoc d) :=
  transpose S8x8192x8x128 [2, 0, 3, 1] (shapeCast S8192x128x8x8 (m (xLoc d) : S1048576x64.Idx → F .f32) shapeCasts_S1048576x64_S8192x128x8x8)
    transposes_S8192x128x8x8_S8x8192x8x128_2_0_3_1

/-- The kernel's output at the launch's operands. -/
def outV (d : Dev nD) : Buf (Elt F) (oLoc d) := outG (m (uLoc d)) (m (wLoc d)) (m (aLoc d)) (epsT m d)

/-! ## What each thread takes -/

/-- The share of the read arrays SparseCore number `c` takes; that of its tile number `i`. -/
def shC (c : Fin (grid0.bound 0)) : PosShare TreeShare := Transfers.shareTok fullShare 2 c
def shT (c : Fin (grid0.bound 0)) (i : Fin (grid0.bound 1)) : PosShare TreeShare := Transfers.shareTok (shC c) 16 i

/-- The three read arrays, at a share. -/
def readsAt (d : Dev nD) (q : PosShare TreeShare) : sProp 𝕄 :=
  iprop((aLoc d ↦{q} m (aLoc d)) ∗ (uLoc d ↦{q} m (uLoc d)) ∗ wLoc d ↦{q} m (wLoc d))

/-- A tile's chunks of the noise, and of the output at `G`, and at anything. -/
def eTile (d : Dev nD) (c : Fin (grid0.bound 0)) (i : Fin (grid0.bound 1)) : sProp 𝕄 :=
  bigSep Finset.univ fun n : Fin 128 => eLoc d ↦[eSet (crd c i) n]{fullShare} epsT m d
def oTile (d : Dev nD) (c : Fin (grid0.bound 0)) (i : Fin (grid0.bound 1)) (G : Buf (Elt F) (oLoc d)) : sProp 𝕄 :=
  bigSep Finset.univ fun n : Fin 128 => oLoc d ↦[eSet (crd c i) n]{fullShare} G

def tileIn (d : Dev nD) (c : Fin (grid0.bound 0)) (i : Fin (grid0.bound 1)) : sProp 𝕄 :=
  iprop(readsAt m d (shT c i) ∗ eTile m d c i ∗ oTile d c i (m (oLoc d)))
def tileOut (d : Dev nD) (c : Fin (grid0.bound 0)) (i : Fin (grid0.bound 1)) : sProp 𝕄 :=
  iprop(readsAt m d (shT c i) ∗ eTile m d c i ∗ oTile d c i (outV m d))
def coreIn (d : Dev nD) (c : Fin (grid0.bound 0)) : sProp 𝕄 :=
  iprop(readsAt m d (shC c) ∗ (bigSep Finset.univ fun i => eTile m d c i) ∗ bigSep Finset.univ fun i => oTile d c i (m (oLoc d)))
def coreOut (d : Dev nD) (c : Fin (grid0.bound 0)) : sProp 𝕄 :=
  iprop(readsAt m d (shC c) ∗ (bigSep Finset.univ fun i => eTile m d c i) ∗ bigSep Finset.univ fun i => oTile d c i (outV m d))

instance readsAt_storable (d : Dev nD) (q : PosShare TreeShare) : BI.Storable (upEmb : UEmb _ 𝕄) (readsAt m d q) := by
  unfold readsAt; infer_instance
instance eTile_storable (d : Dev nD) (c : Fin (grid0.bound 0)) (i : Fin (grid0.bound 1)) : BI.Storable (upEmb : UEmb _ 𝕄) (eTile m d c i) := by
  unfold eTile; infer_instance
instance oTile_storable (d : Dev nD) (c : Fin (grid0.bound 0)) (i : Fin (grid0.bound 1)) (G) : BI.Storable (upEmb : UEmb _ 𝕄) (oTile d c i G) := by
  unfold oTile; infer_instance
instance tileIn_storable (d : Dev nD) (c : Fin (grid0.bound 0)) (i : Fin (grid0.bound 1)) : BI.Storable (upEmb : UEmb _ 𝕄) (tileIn m d c i) := by
  unfold tileIn; infer_instance
instance tileOut_storable (d : Dev nD) (c : Fin (grid0.bound 0)) (i : Fin (grid0.bound 1)) : BI.Storable (upEmb : UEmb _ 𝕄) (tileOut m d c i) := by
  unfold tileOut; infer_instance
instance coreIn_storable (d : Dev nD) (c : Fin (grid0.bound 0)) : BI.Storable (upEmb : UEmb _ 𝕄) (coreIn m d c) := by
  unfold coreIn; infer_instance
instance coreOut_storable (d : Dev nD) (c : Fin (grid0.bound 0)) : BI.Storable (upEmb : UEmb _ 𝕄) (coreOut m d c) := by
  unfold coreOut; infer_instance

/-- The one call's payloads. -/
def P : (K (F := F)).Pay (nD := nD) (Val := Elt F) (Name := ℕ) (U := UU) where
  st := fun q d c => match q with | 0 => coreIn m d c
  dn := fun q d c => match q with | 0 => coreOut m d c
  go := fun q d c i => match q with | 0 => tileIn m d c i
  td := fun q d c i => match q with | 0 => tileOut m d c i
  x := fun _ _ => iprop(emp)

instance P_storable : (P (F := F) m).IsStorable where
  st q d c := match q with | 0 => coreIn_storable m d c
  dn q d c := match q with | 0 => coreOut_storable m d c
  go q d c i := match q with | 0 => tileIn_storable m d c i
  td q d c i := match q with | 0 => tileOut_storable m d c i

/-! ## A SparseCore's part dealt to its tiles -/

theorem reads_deal (d : Dev nD) (c : Fin (grid0.bound 0)) : readsAt m d (shC c)
    ⊢ iprop((bigSep Finset.univ fun i => readsAt m d (shT c i)) ∗ readsAt m d (Transfers.shareDrop (shC c) 16)) := by
  unfold readsAt
  rw [bigSep_sep', bigSep_sep']
  iintro ⟨Ha, Hu, Hw⟩
  ihave Ha := (Transfers.pointsTo_toks_split (shC c) 16) $$ Ha
  ihave Hu := (Transfers.pointsTo_toks_split (shC c) 16) $$ Hu
  ihave Hw := (Transfers.pointsTo_toks_split (shC c) 16) $$ Hw
  icases Ha with ⟨Da, Ta⟩
  icases Hu with ⟨Du, Tu⟩
  icases Hw with ⟨Dw, Tw⟩
  isplitl [Ta Tu Tw]
  · isplitl [Ta]; · iexact Ta
    isplitl [Tu]; · iexact Tu
    iexact Tw
  · isplitl [Da]; · iexact Da
    isplitl [Du]; · iexact Du
    iexact Dw

theorem reads_join (d : Dev nD) (c : Fin (grid0.bound 0)) :
    iprop((bigSep Finset.univ fun i => readsAt m d (shT c i)) ∗ readsAt m d (Transfers.shareDrop (shC c) 16)) ⊢ readsAt m d (shC c) := by
  unfold readsAt
  rw [bigSep_sep', bigSep_sep']
  iintro ⟨⟨Ta, Tu, Tw⟩, Da, Du, Dw⟩
  isplitl [Ta Da]
  · iapply (Transfers.pointsTo_toks_join (shC c) 16)
    isplitl [Da]; · iexact Da
    iexact Ta
  isplitl [Tu Du]
  · iapply (Transfers.pointsTo_toks_join (shC c) 16)
    isplitl [Du]; · iexact Du
    iexact Tu
  · iapply (Transfers.pointsTo_toks_join (shC c) 16)
    isplitl [Dw]; · iexact Dw
    iexact Tw

theorem vecSplit : (K (F := F)).VecSplit' (P m) 0 := by
  intro d c
  show coreIn m d c ⊢ |={Set.univ}=> iprop((bigSep Finset.univ fun i : Fin (grid0.bound 1) => tileIn m d c i)
      ∗ ((bigSep Finset.univ fun i : Fin (grid0.bound 1) => tileOut m d c i) -∗ coreOut m d c))
  unfold coreIn coreOut tileIn tileOut
  rw [bigSep_sep', bigSep_sep', bigSep_sep', bigSep_sep']
  iintro ⟨Hr, He, Ho⟩
  ihave Hr := (reads_deal m d c) $$ Hr
  icases Hr with ⟨Ht, Hd⟩
  imodintro
  isplitl [Ht He Ho]
  · isplitl [Ht]; · iexact Ht
    isplitl [He]; · iexact He
    iexact Ho
  iintro ⟨Ht, He, Ho⟩
  isplitl [Ht Hd]
  · iapply (reads_join m d c)
    isplitl [Ht]; · iexact Ht
    iexact Hd
  isplitl [He]; · iexact He
  iexact Ho

/-! ## A tile's part at its own windows -/

theorem eTile_eq (d : Dev nD) (c : Fin (grid0.bound 0)) (i : Fin (grid0.bound 1)) :
    eTile m d c i = bigSep Finset.univ (eCh d (crd c i) (epsT m d)) := by
  unfold eTile
  refine bigSep_congr fun n _ => ?_
  unfold eCh
  rw [eSl_set]

theorem oTile_eq (d : Dev nD) (c : Fin (grid0.bound 0)) (i : Fin (grid0.bound 1)) (G : Buf (Elt F) (oLoc d)) :
    oTile d c i G = bigSep Finset.univ (oCh d (crd c i) G) := by
  unfold oTile
  refine bigSep_congr fun n _ => ?_
  unfold oCh
  rw [oSl_set]

/-- The indicators at a share: the tile's chunks, and the rest. -/
theorem a_chunks (d : Dev nD) (L : grid0.Coords) (q : PosShare TreeShare) (C : Buf (Elt F) (aLoc d)) :
    (aLoc d ↦{q} C : sProp 𝕄) ⊣⊢ iprop(bigSep Finset.univ (cCh d L q C)
      ∗ aLoc d ↦[Finset.univ \ Finset.univ.biUnion (cSet L)]{q} C) := by
  have e : bigSep Finset.univ (cCh d L q C) = (aLoc d ↦[Finset.univ.biUnion (cSet L)]{q} C : sProp 𝕄) := by
    rw [pointsTo_biUnion Finset.univ (ℓ := aLoc d) (cSet L) (cSet_disjoint L)]
    refine bigSep_congr fun n _ => ?_
    unfold cCh
    rw [cSl_set]
  rw [e]
  exact pointsTo_split_subset (Finset.subset_univ _)

/-- The body on a tile, from what the launch hands it to what it gives back. -/
theorem tile_body (d : Dev nD) (c : Fin (grid0.bound 0)) (i : Fin (grid0.bound 1)) (O : CellTallies nD τ sig (HIx 1)) (W : Waits sig (HIx 1))
    (hO : ∀ g, O g none = 0) :
    iprop(levAts (K (F := F)).L (K (F := F)).lev ∗ emp ∗ tileIn m d c i ∗ scopedBufs (tV d (crd c i)) ∗ scopedSems0 (tV d (crd c i)) ∗ owes (tV d (crd c i)) O W)
      ⊢ wp frame (wpE (defs₀ (F := F)) 𝒱₀ (tV d (crd c i)) none) Set.univ (kern (crd c i))
          fun _ => iprop(tileOut m d c i ∗ scopedBufs (tV d (crd c i)) ∗ scopedSems0 (tV d (crd c i))
            ∗ ∃ W', ⌜∀ p ∈ W', p ∈ W ∨ p.2 = none⌝ ∗ owes (tV d (crd c i)) O W') := by
  unfold tileIn tileOut readsAt
  rw [eTile_eq, oTile_eq, oTile_eq]
  iintro ⟨#Hlv, -, ⟨⟨Ha, Hu, Hw⟩, He, Ho⟩, Hsb, Hss, HO⟩
  ihave Hmw := (show levAts (K (F := F)).L (K (F := F)).lev ⊢ Transfers.MayWaits (tV d (crd c i)) (default : HIx 1) O from
    (K (F := F)).mayWaits_none (thr := tV d (crd c i)) hO) $$ Hlv
  ihave Hs := (slots_in (F := F) d (crd c i)) $$ [Hsb Hss]
  · isplitl [Hsb] <;> iassumption
  ihave Ha := (a_chunks d (crd c i) (shT c i) (m (aLoc d))).1 $$ Ha
  icases Ha with ⟨Hc, Hcr⟩
  icases Hs with ⟨Hs, Hrest⟩
  have hrun := tile_run (F := F) d (crd c i) O W (shT c i) (m (aLoc d)) (epsT m d) (outV m d) (m (uLoc d)) (m (wLoc d))
    (fun n => outG_chunk d (crd c i) (m (uLoc d)) (m (wLoc d)) (m (aLoc d)) (epsT m d) n)
  ihave Hwp := hrun $$ [Hmw HO Hu Hw Hc He Ho Hs]
  · isplitl [Hmw]; · iexact Hmw
    isplitl [HO]; · iexact HO
    isplitl [Hu]; · iexact Hu
    isplitl [Hw]; · iexact Hw
    isplitl [Hc]; · iexact Hc
    isplitl [He]; · iexact He
    isplitl [Ho]
    · iapply (SparseCore.ent <| bigSep_mono (s := (Finset.univ : Finset (Fin 128))) (Φ := oCh d (crd c i) (m (oLoc d))) (Ψ := fun n => iprop(∃ f, oCh d (crd c i) f n))
        (fun n _ => show oCh d (crd c i) (m (oLoc d)) n ⊢ iprop(∃ f, oCh d (crd c i) f n) from by iintro H; iexists _; iexact H))
      iexact Ho
    · iexact Hs
  iapply (wp_wand_r frame (wpE (defs₀ (F := F)) 𝒱₀ (tV d (crd c i)) none) Set.univ)
  isplitl [Hwp]; · iexact Hwp
  iintro %_ ⟨HO, Hu, Hw, Hc, He, Ho, Hs⟩
  isplitl [Hu Hw Hc Hcr He Ho]
  · isplitl [Hu Hw Hc Hcr]
    · isplitl [Hc Hcr]
      · iapply (a_chunks d (crd c i) (shT c i) (m (aLoc d))).2
        isplitl [Hc] <;> iassumption
      isplitl [Hu]; · iexact Hu
      iexact Hw
    isplitl [He]; · iexact He
    iexact Ho
  ihave Hs := (slots_out (F := F) d (crd c i)) $$ [Hs Hrest]
  · isplitl [Hs]; · iexact Hs
    iexact Hrest
  icases Hs with ⟨Hsb, Hss⟩
  isplitl [Hsb]; · iexact Hsb
  isplitl [Hss]; · iexact Hss
  iexact HO

theorem defs₀_vector (c : Fin τ.nSC) (s : Fin τ.nSub) :
    defs₀ (F := F) (.scVector c s) 0 () = SparseCore.onTile hcore0 hsub0 (fun c s => kern (F := F) (crd c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d ⟨_, hc.1⟩ ⟨_, hc.2⟩ O W hO).trans (wp_mono frame _ _ fun _ => obl_post)

end Cert.Proof.Mix

end
-- ==== Proof.Main.lean ====
/-
  The program on the TensorCore — the noise re-laid, the call, the output re-laid — and the run of the whole program: it
  terminates with the arguments unchanged and the result at one named value.
-/
module

public import proofs.«01_k».proof.Proof.Payload

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held wp_hlo_within)

variable (m : (ℓ : Loc nD τ sig) → Buf (Elt F) ℓ) (ρ : Dev nD → PrngReg)

/-! ## The call's operands dealt to the SparseCores -/

theorem e_whole (d : Dev nD) : (eLoc d ↦{fullShare} epsT m d : sProp 𝕄)
    = bigSep Finset.univ fun c => bigSep Finset.univ fun i => eTile m d c i := by
  have h : (eLoc d ↦{fullShare} epsT m d : sProp 𝕄) = bigSep Finset.univ fun t : Ch => eLoc d ↦[chSet t]{fullShare} epsT m d := by
    rw [← pointsTo_biUnion Finset.univ (ℓ := eLoc d) chSet chSet_disjoint, chSet_cover]; try rfl
  rw [h, bigSep_univ_prod]
  refine bigSep_congr fun c _ => ?_
  rw [bigSep_univ_prod]
  rfl

theorem o_whole (d : Dev nD) (G : Buf (Elt F) (oLoc d)) : (oLoc d ↦{fullShare} G : sProp 𝕄)
    = bigSep Finset.univ fun c => bigSep Finset.univ fun i => oTile d c i G := by
  have h : (oLoc d ↦{fullShare} G : sProp 𝕄) = bigSep Finset.univ fun t : Ch => oLoc d ↦[chSet t]{fullShare} G := by
    rw [← pointsTo_biUnion Finset.univ (ℓ := oLoc d) chSet chSet_disjoint, chSet_cover]; try rfl
  rw [h, bigSep_univ_prod]
  refine bigSep_congr fun c _ => ?_
  rw [bigSep_univ_prod]
  rfl

theorem cores_deal (d : Dev nD) : readsAt m d fullShare
    ⊢ iprop((bigSep Finset.univ fun c => readsAt m d (shC c)) ∗ readsAt m d (Transfers.shareDrop fullShare 2)) := by
  unfold readsAt
  rw [bigSep_sep', bigSep_sep']
  iintro ⟨Ha, Hu, Hw⟩
  ihave Ha := (Transfers.pointsTo_toks_split fullShare 2) $$ Ha
  ihave Hu := (Transfers.pointsTo_toks_split fullShare 2) $$ Hu
  ihave Hw := (Transfers.pointsTo_toks_split fullShare 2) $$ Hw
  icases Ha with ⟨Da, Ta⟩
  icases Hu with ⟨Du, Tu⟩
  icases Hw with ⟨Dw, Tw⟩
  isplitl [Ta Tu Tw]
  · isplitl [Ta]; · iexact Ta
    isplitl [Tu]; · iexact Tu
    iexact Tw
  · isplitl [Da]; · iexact Da
    isplitl [Du]; · iexact Du
    iexact Dw

theorem cores_join (d : Dev nD) :
    iprop((bigSep Finset.univ fun c => readsAt m d (shC c)) ∗ readsAt m d (Transfers.shareDrop fullShare 2)) ⊢ readsAt m d fullShare := by
  unfold readsAt
  rw [bigSep_sep', bigSep_sep']
  iintro ⟨⟨Ta, Tu, Tw⟩, Da, Du, Dw⟩
  isplitl [Ta Da]
  · iapply (Transfers.pointsTo_toks_join fullShare 2)
    isplitl [Da]; · iexact Da
    iexact Ta
  isplitl [Tu Du]
  · iapply (Transfers.pointsTo_toks_join fullShare 2)
    isplitl [Du]; · iexact Du
    iexact Tu
  · iapply (Transfers.pointsTo_toks_join fullShare 2)
    isplitl [Dw]; · iexact Dw
    iexact Tw

/-- What the call takes, and gives back. -/
theorem st_eq (d : Dev nD) : (bigSep Finset.univ fun c : Fin ((K (F := F)).nCore 0) => (P m).st 0 d c)
    = iprop((bigSep Finset.univ fun c => readsAt m d (shC c)) ∗ (eLoc d ↦{fullShare} epsT m d) ∗ oLoc d ↦{fullShare} m (oLoc d)) := by
  rw [e_whole, o_whole, ← bigSep_sep', ← bigSep_sep']
  rfl
theorem dn_eq (d : Dev nD) : (bigSep Finset.univ fun c : Fin ((K (F := F)).nCore 0) => (P m).dn 0 d c)
    = iprop((bigSep Finset.univ fun c => readsAt m d (shC c)) ∗ (eLoc d ↦{fullShare} epsT m d) ∗ oLoc d ↦{fullShare} outV m d) := by
  rw [e_whole, o_whole, ← bigSep_sep', ← bigSep_sep']
  rfl

/-! ## The launch element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  show _ ⊢ bigSep Finset.univ fun _ : Thread nD τ => bigSep Finset.univ fun _ : Fin 1 => (iprop(emp) : sProp 𝕄)
  rw [bigSep_congr fun _ _ => emps _, emps]

/-! ## The TensorCore's arrays -/

abbrev a' : DevRef τ sig := Proc.devRef .tc (main_arg0 : Ref sig .tc)
abbrev x' : DevRef τ sig := Proc.devRef .tc (main_arg1 : Ref sig .tc)
abbrev u' : DevRef τ sig := Proc.devRef .tc (main_arg2 : Ref sig .tc)
abbrev w' : DevRef τ sig := Proc.devRef .tc (main_arg3 : Ref sig .tc)
abbrev p' : DevRef τ sig := Proc.devRef .tc (main_v0 : Ref sig .tc)
abbrev e' : DevRef τ sig := Proc.devRef .tc (main_v1 : Ref sig .tc)
abbrev o' : DevRef τ sig := Proc.devRef .tc (main_v2 : Ref sig .tc)
abbrev r' : DevRef τ sig := Proc.devRef .tc (main_v3 : Ref sig .tc)
abbrev z' : DevRef τ sig := Proc.devRef .tc (main_v4 : Ref sig .tc)
abbrev S9 : Finset (DevRef τ sig) := {a', x', u', w', p', e', o', r', z'}

abbrev zLoc (d : Dev nD) : Loc nD τ sig := (SparseCore.T d).loc main_v4

abbrev op1 : HloOp τ sig (Elt F) := StableHlo.reshape main_arg1 main_v0 (rfl : (.f32 : EltTy) = .f32) shapeCasts_S1048576x64_S8192x128x8x8
abbrev op2 : HloOp τ sig (Elt F) := StableHlo.unary main_v0 main_v1 ((transpose S8x8192x8x128 [2, 0, 3, 1] · transposes_S8192x128x8x8_S8x8192x8x128_2_0_3_1) : (⟨S8192x128x8x8, .f32⟩ : BufTy).Contents (Elt F) → (⟨S8x8192x8x128, .f32⟩ : BufTy).Contents (Elt F))
abbrev op3 : HloOp τ sig (Elt F) := StableHlo.unary main_v2 main_v3 ((transpose S8192x128x8x8 [1, 3, 0, 2] · transposes_S8x8192x8x128_S8192x128x8x8_1_3_0_2) : (⟨S8x8192x8x128, .f32⟩ : BufTy).Contents (Elt F) → (⟨S8192x128x8x8, .f32⟩ : BufTy).Contents (Elt F))
abbrev op4 : HloOp τ sig (Elt F) := StableHlo.reshape main_v3 main_v4 (rfl : (.f32 : EltTy) = .f32) shapeCasts_S8192x128x8x8_S1048576x64

theorem held_eq (d : Dev nD) (W : Valuation τ sig (Elt F)) :
    (held (T d) S9 W : sProp 𝕄) = iprop((aLoc d ↦{fullShare} W a') ∗ (xLoc d ↦{fullShare} W x') ∗ (uLoc d ↦{fullShare} W u')
      ∗ (wLoc d ↦{fullShare} W w') ∗ ((SparseCore.T d).loc main_v0 ↦{fullShare} W p') ∗ (eLoc d ↦{fullShare} W e')
      ∗ (oLoc d ↦{fullShare} W o') ∗ ((SparseCore.T d).loc main_v3 ↦{fullShare} W r') ∗ zLoc d ↦{fullShare} W z') := by
  unfold held S9
  repeat rw [SparseCore.bigSep_insert' (by decide)]
  rw [bigSep_singleton]

theorem unscoped_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (uLoc d ↦{fullShare} W main_arg2)
      ∗ (wLoc d ↦{fullShare} W main_arg3) ∗ ((SparseCore.T d).loc main_v0 ↦{fullShare} W main_v0) ∗ (eLoc d ↦{fullShare} W main_v1)
      ∗ (oLoc d ↦{fullShare} W main_v2) ∗ ((SparseCore.T d).loc main_v3 ↦{fullShare} W main_v3) ∗ zLoc d ↦{fullShare} W main_v4) := by
  unfold unscopedBufs
  rw [show (Finset.univ.filter fun b : Ref sig .tc => ¬ b.isScoped)
    = {main_arg0, main_arg1, main_arg2, main_arg3, main_v0, main_v1, main_v2, main_v3, main_v4} by decide]
  repeat rw [SparseCore.bigSep_insert' (by decide)]
  rw [bigSep_singleton]

/-- The arrays' contents, step by step. -/
def V0 (d : Dev nD) : Valuation τ sig (Elt F) := fun b => m (d, b)
def V1 (d : Dev nD) : Valuation τ sig (Elt F) := (op1 (F := F)).result (V0 m d)
def V2 (d : Dev nD) : Valuation τ sig (Elt F) := (op2 (F := F)).result (V1 m d)
def V3 (d : Dev nD) : Valuation τ sig (Elt F) := Function.update (V2 m d) o' (outV m d)
def V4 (d : Dev nD) : Valuation τ sig (Elt F) := (op3 (F := F)).result (V3 m d)
def V5 (d : Dev nD) : Valuation τ sig (Elt F) := (op4 (F := F)).result (V4 m d)

/-- The program's result. -/
def outM (d : Dev nD) : Buf (Elt F) (zLoc d) :=
  shapeCast S1048576x64 (transpose S8192x128x8x8 [1, 3, 0, 2] (outV m d : S8x8192x8x128.Idx → F .f32) transposes_S8x8192x8x128_S8192x128x8x8_1_3_0_2)
    shapeCasts_S8192x128x8x8_S1048576x64

theorem unscoped_held (d : Dev nD) : (unscopedBufs d (fun b => m ((SparseCore.T d).loc b)) : sProp 𝕄) = held (T d) S9 (V0 m d) := by
  rw [unscoped_eq, held_eq]; rfl

theorem V2_keep (d : Dev nD) {b : DevRef τ sig} (h1 : b ≠ p') (h2 : b ≠ e') : V2 m d b = m (d, b) :=
  ((op2 (F := F)).result_of_not_mem (V1 m d) (b := b) (fun h => h2 (Finset.mem_singleton.mp h))).trans
    ((op1 (F := F)).result_of_not_mem (V0 m d) (b := b) (fun h => h1 (Finset.mem_singleton.mp h)))
theorem V2_e (d : Dev nD) : V2 m d e' = epsT m d := by
  refine (StableHlo.unary_result main_v0 main_v1 _ _ _ (V1 m d)).trans ?_
  refine congrArg (fun v => transpose S8x8192x8x128 [2, 0, 3, 1] (v : S8192x128x8x8.Idx → F .f32) transposes_S8192x128x8x8_S8x8192x8x128_2_0_3_1) ?_
  exact StableHlo.reshape_result main_arg1 main_v0 _ _ _ _ (V0 m d)
theorem V3_o (d : Dev nD) : V3 m d o' = outV m d := Function.update_self _ _ _
theorem V3_keep (d : Dev nD) {b : DevRef τ sig} (h : b ≠ o') : V3 m d b = V2 m d b := Function.update_of_ne h _ _
theorem V5_keep (d : Dev nD) {b : DevRef τ sig} (h1 : b ≠ p') (h2 : b ≠ e') (h3 : b ≠ o') (h4 : b ≠ r') (h5 : b ≠ z') : V5 m d b = m (d, b) :=
  ((op4 (F := F)).result_of_not_mem (V4 m d) (b := b) (fun h => h5 (Finset.mem_singleton.mp h))).trans
    (((op3 (F := F)).result_of_not_mem (V3 m d) (b := b) (fun h => h4 (Finset.mem_singleton.mp h))).trans
      ((V3_keep m d h3).trans (V2_keep m d h1 h2)))
theorem V5_z (d : Dev nD) : V5 m d z' = outM m d := by
  refine (StableHlo.reshape_result main_v3 main_v4 _ _ _ _ (V4 m d)).trans ?_
  refine congrArg (fun v => shapeCast S1048576x64 (v : S8192x128x8x8.Idx → F .f32) shapeCasts_S8192x128x8x8_S1048576x64) ?_
  refine (StableHlo.unary_result main_v2 main_v3 _ _ _ (V3 m d)).trans ?_
  exact congrArg (fun v => transpose S8192x128x8x8 [1, 3, 0, 2] (v : S8x8192x8x128.Idx → F .f32) transposes_S8x8192x8x128_S8192x128x8x8_1_3_0_2) (V3_o m d)

theorem held_V2 (d : Dev nD) : (held (T d) S9 (V2 m d) : sProp 𝕄) = iprop((aLoc d ↦{fullShare} m (aLoc d)) ∗ (xLoc d ↦{fullShare} V2 m d x')
      ∗ (uLoc d ↦{fullShare} m (uLoc d)) ∗ (wLoc d ↦{fullShare} m (wLoc d)) ∗ ((SparseCore.T d).loc main_v0 ↦{fullShare} V2 m d p')
      ∗ (eLoc d ↦{fullShare} epsT m d) ∗ (oLoc d ↦{fullShare} m (oLoc d)) ∗ ((SparseCore.T d).loc main_v3 ↦{fullShare} V2 m d r')
      ∗ zLoc d ↦{fullShare} V2 m d z') := by
  rw [held_eq, V2_e, V2_keep m d (b := a') (by decide) (by decide), V2_keep m d (b := u') (by decide) (by decide),
    V2_keep m d (b := w') (by decide) (by decide), V2_keep m d (b := o') (by decide) (by decide)]

theorem held_V3 (d : Dev nD) : (held (T d) S9 (V3 m d) : sProp 𝕄) = iprop((aLoc d ↦{fullShare} m (aLoc d)) ∗ (xLoc d ↦{fullShare} V2 m d x')
      ∗ (uLoc d ↦{fullShare} m (uLoc d)) ∗ (wLoc d ↦{fullShare} m (wLoc d)) ∗ ((SparseCore.T d).loc main_v0 ↦{fullShare} V2 m d p')
      ∗ (eLoc d ↦{fullShare} epsT m d) ∗ (oLoc d ↦{fullShare} outV m d) ∗ ((SparseCore.T d).loc main_v3 ↦{fullShare} V2 m d r')
      ∗ zLoc d ↦{fullShare} V2 m d z') := by
  rw [held_eq, V3_o, V3_keep m d (b := a') (by decide), V3_keep m d (b := x') (by decide), V3_keep m d (b := u') (by decide),
    V3_keep m d (b := w') (by decide), V3_keep m d (b := p') (by decide), V3_keep m d (b := e') (by decide), V3_keep m d (b := r') (by decide),
    V3_keep m d (b := z') (by decide), V2_e, V2_keep m d (b := a') (by decide) (by decide), V2_keep m d (b := u') (by decide) (by decide),
    V2_keep m d (b := w') (by decide) (by decide)]

/-- What the program leaves the claim: the arguments as launched, and the result. -/
abbrev FIN (d : Dev nD) : sProp 𝕄 :=
  iprop((aLoc d ↦{fullShare} m (aLoc d)) ∗ (xLoc d ↦{fullShare} m (xLoc d)) ∗ (uLoc d ↦{fullShare} m (uLoc d))
    ∗ (wLoc d ↦{fullShare} m (wLoc d)) ∗ zLoc d ↦{fullShare} outM m d)

theorem held_V5 (d : Dev nD) : (held (T d) S9 (V5 m d) : sProp 𝕄) ⊢ FIN m d := by
  rw [held_eq, V5_z, V5_keep m d (b := a') (by decide) (by decide) (by decide) (by decide) (by decide),
    V5_keep m d (b := x') (by decide) (by decide) (by decide) (by decide) (by decide),
    V5_keep m d (b := u') (by decide) (by decide) (by decide) (by decide) (by decide),
    V5_keep m d (b := w') (by decide) (by decide) (by decide) (by decide) (by decide)]
  iintro ⟨Ha, Hx, Hu, Hw, -, -, -, -, Hz⟩
  isplitl [Ha]; · iexact Ha
  isplitl [Hx]; · iexact Hx
  isplitl [Hu]; · iexact Hu
  isplitl [Hw]; · iexact Hw
  iexact Hz

theorem hop1 : (op1 (F := F)).bufs ⊆ S9 := show ({x', p'} : Finset (DevRef τ sig)) ⊆ S9 by decide
theorem hop2 : (op2 (F := F)).bufs ⊆ S9 := show ({p', e'} : Finset (DevRef τ sig)) ⊆ S9 by decide
theorem hop3 : (op3 (F := F)).bufs ⊆ S9 := show ({o', r'} : Finset (DevRef τ sig)) ⊆ S9 by decide
theorem hop4 : (op4 (F := F)).bufs ⊆ S9 := show ({r', z'} : Finset (DevRef τ sig)) ⊆ S9 by decide

/-- @main on the TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S9) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) hop2 (V := V1 m d)) $$ [Hb Hheld]
  · isplitl [Hb]; · iexact Hb
    iexact Hheld
  iintro ⟨Hb, Hheld⟩
  rw [wp_ret]; imodintro
  ihave Hh := (Entails.of_eq ((show (held (T d) S9 ((op2 (F := F)).result (V1 m d)) : sProp 𝕄) = held (T d) S9 (V2 m d) from rfl).trans (held_V2 m d))) $$ Hheld
  icases Hh with ⟨Ha, Hx, Hu, Hw, Hp, He, Ho, Hr, Hz⟩
  ihave Hrd := (cores_deal m d) $$ [Ha Hu Hw]
  · unfold readsAt
    isplitl [Ha]; · iexact Ha
    isplitl [Hu]; · iexact Hu
    iexact Hw
  icases Hrd with ⟨Hc, Hrest⟩
  iapply ((K (F := F)).wp_run (D (F := F)) 𝒱 (EH := EH) (P := P m) κ d 0) $$ [Hst Hc He Ho Hb Hrest Hx Hp Hr Hz Hts]
  isplitr; · iexact Hctx
  isplitl [Hst]; · iexact Hst
  isplitl [Hc He Ho]
  · rw [st_eq]
    isplitl [Hc]; · iexact Hc
    isplitl [He]; · iexact He
    iexact Ho
  iintro ⟨Hst, Hdn⟩
  ihave Hdn' := (Entails.of_eq (dn_eq m d)) $$ Hdn
  icases Hdn' with ⟨Hc, He, Ho⟩
  ihave Hrd := (cores_join m d) $$ [Hc Hrest]
  · isplitl [Hc]; · iexact Hc
    iexact Hrest
  ihave Hrd := (show readsAt m d fullShare ⊢ iprop((aLoc d ↦{fullShare} m (aLoc d)) ∗ (uLoc d ↦{fullShare} m (uLoc d)) ∗ wLoc d ↦{fullShare} m (wLoc d))
    from Entails.of_eq rfl) $$ Hrd
  icases Hrd with ⟨Ha, Hu, Hw⟩
  iapply (wp_hlo_within 𝒱 (SparseCore.T d) none Set.univ (op := op3) (S := S9) hop3 (V := V3 m d)) $$ [Hb Ha Hx Hu Hw Hp He Ho Hr Hz]
  · isplitl [Hb]; · iexact Hb
    rw [held_V3]
    isplitl [Ha]; · iexact Ha
    isplitl [Hx]; · iexact Hx
    isplitl [Hu]; · iexact Hu
    isplitl [Hw]; · iexact Hw
    isplitl [Hp]; · iexact Hp
    isplitl [He]; · iexact He
    isplitl [Ho]; · iexact Ho
    isplitl [Hr]; · iexact Hr
    iexact Hz
  iintro ⟨Hb, Hheld⟩
  rw [wp_ret]; imodintro
  iapply (wp_hlo_within 𝒱 (SparseCore.T d) none Set.univ (op := op4) (S := S9) hop4 (V := V4 m d)) $$ [Hb Hheld]
  · isplitl [Hb]; · iexact Hb
    iexact Hheld
  iintro ⟨Hb, Hheld⟩
  rw [wp_ret]; imodintro; imodintro
  isplitl [Hst]; · iexact Hst
  isplitr [Hb Hts]
  · iapply (held_V5 m d); iexact Hheld
  isplitl [Hb] <;> iassumption

/-! ## The run -/

def fq (d : Dev nD) (s' : Phys nD τ sig (Elt F)) : Prop :=
  s'.mem.mem (aLoc d) = m (aLoc d) ∧ s'.mem.mem (xLoc d) = m (xLoc d) ∧ s'.mem.mem (uLoc d) = m (uLoc d) ∧ s'.mem.mem (wLoc d) = m (wLoc d)
    ∧ s'.mem.mem (zLoc d) = outM m d

theorem read_off (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h : iprop(FIN m d ∗ SI s') ⊢ (iprop(⌜s'.mem.mem (aLoc d) = m (aLoc d)⌝ ∧ ⌜s'.mem.mem (xLoc d) = m (xLoc d)⌝
      ∧ ⌜s'.mem.mem (uLoc d) = m (uLoc d)⌝ ∧ ⌜s'.mem.mem (wLoc d) = m (wLoc d)⌝ ∧ ⌜s'.mem.mem (zLoc d) = outM m d⌝) : sProp 𝕄) := by
    iintro ⟨⟨Ha, Hx, Hu, Hw, Hz⟩, HS⟩
    isplit
    · iapply (read_off s' _ _); isplitl [Ha] <;> iassumption
    isplit
    · iapply (read_off s' _ _); isplitl [Hx] <;> iassumption
    isplit
    · iapply (read_off s' _ _); isplitl [Hu] <;> iassumption
    isplit
    · iapply (read_off s' _ _); isplitl [Hw] <;> iassumption
    · iapply (read_off s' _ _); isplitl [Hz] <;> iassumption
  refine h.trans ?_
  iintro ⟨%h0, %h1, %h2, %h3, %h4⟩
  ipureintro; exact ⟨h0, h1, h2, h3, h4⟩

/-- What every finished run satisfies. -/
def QC : PUnit × MemSt nD τ sig (Elt F) → Prop := fun r =>
  (∀ c : Dev nD, r.2.mem (aLoc c) = m (aLoc c) ∧ r.2.mem (xLoc c) = m (xLoc c) ∧ r.2.mem (uLoc c) = m (uLoc c) ∧ r.2.mem (wLoc c) = m (wLoc c)
    ∧ r.2.mem (zLoc c) = outM m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Mix

end
-- ==== Proof.Ref.lean ====
/-
  The reference read at an index: where every component is 0 or 1, `jnp.take` is the row the component names, its wrap of
  negative components and its in-range mask both idle.
-/
module

public import proofs.«01_k».proof.Proof.Gen.ReferenceIdeal.Run
public import proofs.«01_k».proof.Proof.Gen.Pre_drawn
public import proofs.«01_k».proof.Pre_drawn
public import Idealize.ShloMosaic.Lib.Pipeline.Value
public import Idealize.ShloMosaic.Lib.ReduceAll
public import Idealize.ShloMosaic.Lib.ValueIdxCore
public import Idealize.ShloMosaic.Lib.ValueLayout
public import Idealize.ShloMosaic.Lib.Routing.Ops
public import Idealize.ShloMosaic.PureOps.Ideal

@[expose] public section

noncomputable section

namespace Cert.Proof.Ref

open Cert.ReferenceIdeal Cert.ReferenceIdeal.Gen
open Idealize.ShloMosaic Idealize.ShloMosaic.ValueIdx

/-! ## The operations of the reference -/

/-- The components with the negative ones wrapped, as a column of row numbers. -/
abbrev rows (C : IVec S1048576 32) : IVec S1048576x1 32 :=
  broadcastInDim S1048576x1 ![0] bcast_S1048576_S1048576x1_0
    (select (cmpi .slt C (broadcastInDim S1048576 ![] bcast_S_S1048576 (constantI S_ 32 0#32)))
      (addi C (broadcastInDim S1048576 ![] bcast_S_S1048576 (constantI S_ 32 2#32))) C)

/-- Which row numbers are in range. -/
abbrev inRange (C : IVec S1048576 32) : IVec S1048576x1 1 :=
  andi (cmpi .sge (rows C) (broadcastInDim S1048576x1 ![] bcast_S_S1048576x1 (constantI S_ 32 0#32)))
    (cmpi .sle (rows C) (broadcastInDim S1048576x1 ![0, 1] bcast_S1x1_S1048576x1_0_1 (broadcastInDim S1x1 ![1] bcast_S1_S1x1_1 (constantI S1 32 1#32))))

/-- The rows of a `2×64` array the components name. -/
abbrev take (X : FVec Ideal S2x64 .f32) (C : IVec S1048576 32) : FVec Ideal S1048576x64 .f32 :=
  select (broadcastInDim S1048576x64 ![0] bcast_S1048576_S1048576x64_0
      (Host.reduce IntOp.andi (inRange C) (constantI S_ 1 1#1) reducesTo_S1048576x1_S1048576_d1 h_S_))
    (Host.gather gather_S2x64_S1048576x1_S1048576x64_1_0_n_n_0_1_164 X (rows C))
    (broadcastInDim S1048576x64 ![] bcast_S_S1048576x64 (constant S_ .f32 0x7FC00000#32))

/-- The reference's result. -/
abbrev result (C : IVec S1048576 32) (E : FVec Ideal S1048576x64 .f32) (MU LV : FVec Ideal S2x64 .f32) : FVec Ideal S1048576x64 .f32 :=
  addf (take MU C) (mulf E (Host.exp (mulf (broadcastInDim S1048576x64 ![] bcast_S_S1048576x64 (constant S_ .f32 0x3F000000#32)) (take LV C))))

/-! ## Where the components are 0 or 1 -/

/-- Every component is one of `b : Fin 2`. -/
abbrev Bits01 (C : IVec S1048576 32) : Prop := ∀ i, ∃ b : Fin 2, C i = BitVec.ofNat 32 b.val

theorem rows_apply {C : IVec S1048576 32} (hC : Bits01 C) (r : Fin 1048576) (o : Fin 1) : rows C (ix2 r o) = C (ix1 r) := by
  refine (broadcastInDim_apply (s := S1048576) (t := S1048576x1) _ _ _ (ix2 r o) (ix1 r) (fun a => ?_)).trans ?_
  · obtain rfl : a = 0 := Subsingleton.elim _ _
    rfl
  · obtain ⟨b, hb⟩ := hC (ix1 r)
    show Scalar.select (IntOp.cmpi .slt (C (ix1 r)) 0#32) _ (C (ix1 r)) = C (ix1 r)
    have h0 : IntOp.cmpi .slt (C (ix1 r)) 0#32 = 0#1 := by
      rw [hb]; clear hb; revert b; decide
    rw [h0]; rfl

theorem inRange_apply {C : IVec S1048576 32} (hC : Bits01 C) (i : S1048576x1.Idx) : inRange C i = 1#1 := by
  obtain ⟨r, o, rfl⟩ : ∃ (r : Fin 1048576) (o : Fin 1), i = ix2 r o :=
    ⟨i 0, i 1, funext fun a => by match a with | 0 => rfl | 1 => rfl⟩
  show IntOp.andi (IntOp.cmpi .sge (rows C (ix2 r o)) 0#32) (IntOp.cmpi .sle (rows C (ix2 r o)) 1#32) = 1#1
  rw [rows_apply hC]
  obtain ⟨b, hb⟩ := hC (ix1 r)
  rw [hb]; clear hb; revert b; decide

theorem take_apply (X : FVec Ideal S2x64 .f32) {C : IVec S1048576 32} (hC : Bits01 C) (r : Fin 1048576) (z : Fin 64) (b : Fin 2)
    (hb : C (ix1 r) = BitVec.ofNat 32 b.val) : take X C (ix2 r z) = X (ix2 b z) := by
  have hm : broadcastInDim S1048576x64 ![0] bcast_S1048576_S1048576x64_0
      (Host.reduce IntOp.andi (inRange C) (constantI S_ 1 1#1) reducesTo_S1048576x1_S1048576_d1 h_S_) (ix2 r z) = 1#1 := by
    refine (broadcastInDim_apply (s := S1048576) (t := S1048576x64) _ _ _ (ix2 r z) (ix1 r) (fun a => ?_)).trans ?_
    · obtain rfl : a = 0 := Subsingleton.elim _ _
      rfl
    · exact Host.reduce_andi_one _ _ _ _ _ rfl (inRange_apply hC)
  refine (select_apply _ _ _ _).trans ?_
  rw [hm]
  refine (select_one _ _).trans ?_
  exact Idealize.ShloMosaic.Routing.gather_row _ rfl rfl rfl rfl rfl X (rows C) r z b ((rows_apply hC r 0).trans hb) (by norm_num)

/-- The reference's element `(r, z)`. -/
theorem result_apply (C : IVec S1048576 32) (E : FVec Ideal S1048576x64 .f32) (MU LV : FVec Ideal S2x64 .f32) (hC : Bits01 C)
    (r : Fin 1048576) (z : Fin 64) (b : Fin 2) (hb : C (ix1 r) = BitVec.ofNat 32 b.val) :
    result C E MU LV (ix2 r z) = FloatOps.addf (MU (ix2 b z)) (FloatOps.mulf (E (ix2 r z))
      (FloatOps.hostUnary .exp (FloatOps.mulf (FloatOps.ofBits .f32 0x3F000000#32) (LV (ix2 b z))))) := by
  show FloatOps.addf (take MU C (ix2 r z)) (FloatOps.mulf (E (ix2 r z))
      (FloatOps.hostUnary .exp (FloatOps.mulf (FloatOps.ofBits .f32 0x3F000000#32) (take LV C (ix2 r z))))) = _
  rw [take_apply MU hC r z b hb, take_apply LV hC r z b hb]

/-! ## The precondition read -/

theorem andi_bits {x y : BitVec 1} (h : IntOp.andi x y = 1#1) : x = 1#1 ∧ y = 1#1 := by
  revert x y; decide

theorem word01 {w : BitVec 32} (h1 : IntOp.cmpi .sge w 0#32 = 1#1) (h2 : IntOp.cmpi .slt w 2#32 = 1#1) : ∃ b : Fin 2, w = BitVec.ofNat 32 b.val := by
  have g1 : (0#32).toInt ≤ w.toInt := by
    by_contra hn
    have : IntOp.cmpi .sge w 0#32 = 0#1 := by
      have hn' : ¬(0 ≤ w.toInt) := by simpa using hn
      simp [IntOp.cmpi, BitVec.sle, hn']
    rw [this] at h1; exact absurd h1 (by decide)
  have g2 : w.toInt < (2#32).toInt := by
    by_contra hn
    have : IntOp.cmpi .slt w 2#32 = 0#1 := by
      have hn' : ¬(w.toInt ≤ 1) := fun h => hn (lt_of_le_of_lt h (by decide))
      simp [IntOp.cmpi, BitVec.slt, hn']
    rw [this] at h2; exact absurd h2 (by decide)
  have e0 : (0#32).toInt = 0 := by decide
  have e2 : (2#32).toInt = 2 := by decide
  rw [e0] at g1; rw [e2] at g2
  rcases (show w.toInt = 0 ∨ w.toInt = 1 by omega) with h | h
  · exact ⟨0, BitVec.eq_of_toInt_eq (h.trans (by decide))⟩
  · exact ⟨1, BitVec.eq_of_toInt_eq (h.trans (by decide))⟩

theorem inf_top : (FloatOps.ofBits .f32 0x7F800000#32 : Ideal .f32) = (⊤ : EReal) := by
  show Ideal.ofBits .f32 0x7F800000#32 = (⊤ : EReal)
  simp [Ideal.ofBits, Ideal.ieee]

theorem finite_of_lt {x : EReal} (h : Ideal.cmp .olt (max x (-x)) ⊤ = 1#1) : x ≠ ⊥ ∧ x ≠ ⊤ := by
  constructor <;> rintro rfl <;> exact absurd h (by simp [Ideal.cmp])

theorem eq_of_oeq {x y : EReal} (h : Ideal.cmp .oeq x y = 1#1) : x = y := by
  by_contra hn
  exact absurd h (by simp [Ideal.cmp, hn])

theorem row0 (X : FVec Ideal S2x64 .f32) (r : Fin 2) (off : Fin 2 → ℕ) (hoff : off = ![r.val, 0]) (h : S2x64.Slices off ⟨2, ![1, 64]⟩)
    (h' : (⟨2, ![1, 64]⟩ : Shape).ShapeCasts ⟨1, ![64]⟩) (z : Fin 64) :
    shapeCast ⟨1, ![64]⟩ (extractStridedSlice ⟨2, ![1, 64]⟩ off X h) h' (ix1 z) = X (ix2 r z) := by
  subst hoff
  refine (shapeCast_apply _ h' (ix1 z) (ix2 (0 : Fin 1) z) ?_).trans ?_
  · simp [Shape.rowMajor_val_two, Shape.rowMajor_val_one]
  · exact extractStridedSlice_apply _ X h _ (ix2 r z) (fun a => by match a with | 0 => simp | 1 => simp)

/-- What `drawn` says of the arguments. -/
theorem drawn_read {C : IVec S1048576 32} {E : FVec Ideal S1048576x64 .f32} {MU LV : FVec Ideal S2x64 .f32}
    (h : Cert.Pre_drawn.fn (F := Ideal) C E MU LV = fun _ => 1#1) :
    Bits01 C ∧ (∀ z, MU (ix2 0 z) ≠ (⊥ : EReal) ∧ MU (ix2 0 z) ≠ (⊤ : EReal)) ∧ ∀ z, LV (ix2 0 z) = LV (ix2 1 z) := by
  have h0 := congrFun h (fun a => a.elim0)
  unfold Cert.Pre_drawn.fn Cert.Pre_drawn.fn_part1 at h0
  obtain ⟨h12, h3⟩ := andi_bits h0
  obtain ⟨h1, h2⟩ := andi_bits h12
  haveI : Subsingleton Cert.Pre_drawn.S_.Idx := ⟨fun a b => funext fun k => k.elim0⟩
  refine ⟨fun i => ?_, fun z => ?_, fun z => ?_⟩
  · obtain ⟨a, b⟩ := andi_bits (Host.reduce_andi_all _ _ _ _ _ h1 i)
    exact word01 a b
  · have g := Host.reduce_andi_all _ _ _ _ _ h2 (ix1 z)
    have g' : Ideal.cmp .olt (max (MU (ix2 0 z) : EReal) (-(MU (ix2 0 z) : EReal))) ⊤ = 1#1 := by
      rw [← row0 MU 0 ![0, 0] rfl Cert.Pre_drawn.Facts.slices_S2x64_S1x64_0_0 Cert.Pre_drawn.Facts.shapeCasts_S1x64_S64 z, ← inf_top]
      exact g
    exact finite_of_lt g'
  · have g := Host.reduce_andi_all _ _ _ _ _ h3 (ix1 z)
    rw [← row0 LV 0 ![0, 0] rfl Cert.Pre_drawn.Facts.slices_S2x64_S1x64_0_0 Cert.Pre_drawn.Facts.shapeCasts_S1x64_S64 z,
      ← row0 LV 1 ![1, 0] rfl Cert.Pre_drawn.Facts.slices_S2x64_S1x64_1_0 Cert.Pre_drawn.Facts.shapeCasts_S1x64_S64 z]
    exact eq_of_oeq g

end Cert.Proof.Ref

end
-- ==== Proof.Value.lean ====
/-
  The kernel's result read at an index over the extended reals, and its equality with the reference's: a component `k` of 0 or
  1 blends the two means into row `k`, since the first row is finite, and the one scale serves both components.
-/
module

public import proofs.«01_k».proof.Proof.Main
public import proofs.«01_k».proof.Proof.Ref

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

/-! ## The layout -/

/-- Where row `r`, column `z` of the result lies in the call's output. -/
def pos (r : Fin 1048576) (z : Fin 64) : S8x8192x8x128.Idx :=
  ix4 (⟨z.val / 8, by omega⟩ : Fin 8) (⟨r.val / 128, by omega⟩ : Fin 8192) (⟨z.val % 8, by omega⟩ : Fin 8) (⟨r.val % 128, by omega⟩ : Fin 128)
/-- The same element in the untransposed layout. -/
def mid (r : Fin 1048576) (z : Fin 64) : S8192x128x8x8.Idx :=
  ix4 (⟨r.val / 128, by omega⟩ : Fin 8192) (⟨r.val % 128, by omega⟩ : Fin 128) (⟨z.val / 8, by omega⟩ : Fin 8) (⟨z.val % 8, by omega⟩ : Fin 8)

theorem mid_rowMajor (r : Fin 1048576) (z : Fin 64) : (S8192x128x8x8.rowMajor (mid r z)).val = (S1048576x64.rowMajor (ix2 r z)).val := by
  have e1 : (S8192x128x8x8.rowMajor (mid r z)).val = ((r.val / 128 * 128 + r.val % 128) * 8 + z.val / 8) * 8 + z.val % 8 := by
    unfold mid; rw [Shape.rowMajor_val_four]; rfl
  have e2 : (S1048576x64.rowMajor (ix2 r z)).val = r.val * 64 + z.val := by rw [Shape.rowMajor_val_two]; rfl
  rw [e1, e2]; omega

theorem pos_out (r : Fin 1048576) (z : Fin 64) (v : S8x8192x8x128.Idx → F .f32) :
    shapeCast S1048576x64 (transpose S8192x128x8x8 [1, 3, 0, 2] v transposes_S8x8192x8x128_S8192x128x8x8_1_3_0_2) shapeCasts_S8192x128x8x8_S1048576x64 (ix2 r z)
      = v (pos r z) := by
  refine (shapeCast_apply _ _ (ix2 r z) (mid r z) (mid_rowMajor r z)).trans ?_
  exact transpose_apply _ v _ (mid r z) (pos r z) (fun b => by match b with | 0 => rfl | 1 => rfl | 2 => rfl | 3 => rfl)

theorem pos_eps (r : Fin 1048576) (z : Fin 64) (v : S1048576x64.Idx → F .f32) :
    transpose S8x8192x8x128 [2, 0, 3, 1] (shapeCast S8192x128x8x8 v shapeCasts_S1048576x64_S8192x128x8x8) transposes_S8192x128x8x8_S8x8192x8x128_2_0_3_1 (pos r z)
      = v (ix2 r z) := by
  refine (transpose_apply _ _ _ (pos r z) (mid r z) (fun b => by match b with | 0 => rfl | 1 => rfl | 2 => rfl | 3 => rfl)).trans ?_
  exact shapeCast_apply v _ (mid r z) (ix2 r z) (mid_rowMajor r z).symm

theorem flat_pos (r : Fin 1048576) (z : Fin 64) : flat (pos r z) = ix1 r := by
  funext a
  obtain rfl : a = 0 := Subsingleton.elim _ _
  refine Fin.ext ?_
  show 128 * (r.val / 128) + r.val % 128 = r.val
  omega

theorem entry_pos (X : S2x64.Idx → F .f32) (b : Fin 2) (z : Fin 64) : entry X b.val (8 * (z.val / 8) + z.val % 8) = X (ix2 b z) := by
  unfold entry
  refine congrArg X (funext fun a => ?_)
  match a with
  | 0 => exact Fin.ext (by show b.val % 2 = b.val; omega)
  | 1 => exact Fin.ext (by show (8 * (z.val / 8) + z.val % 8) % 64 = z.val; omega)

/-- The kernel's element `(r, z)`. -/
theorem outM_apply (m : (ℓ : Loc nD τ sig) → Buf (Elt F) ℓ) (d : Dev nD) (r : Fin 1048576) (z : Fin 64) :
    (outM m d : S1048576x64.Idx → F .f32) (ix2 r z) = FloatOps.addf
      (FloatOps.addf ((m (uLoc d) : S2x64.Idx → F .f32) (ix2 0 z)) (FloatOps.mulf (FloatOps.sitofp .f32 ((m (aLoc d) : IVec S1048576 32) (ix1 r)))
        (FloatOps.subf ((m (uLoc d) : S2x64.Idx → F .f32) (ix2 1 z)) ((m (uLoc d) : S2x64.Idx → F .f32) (ix2 0 z)))))
      (FloatOps.mulf ((m (xLoc d) : S1048576x64.Idx → F .f32) (ix2 r z))
        (FloatOps.exp (FloatOps.mulf (FloatOps.ofBits .f32 0x3F000000#32) ((m (wLoc d) : S2x64.Idx → F .f32) (ix2 0 z))))) := by
  refine (pos_out r z _).trans ?_
  have h1 := pos_eps r z (m (xLoc d) : S1048576x64.Idx → F .f32)
  rw [← h1, ← entry_pos (m (uLoc d) : S2x64.Idx → F .f32) 0 z, ← entry_pos (m (uLoc d) : S2x64.Idx → F .f32) 1 z,
    ← entry_pos (m (wLoc d) : S2x64.Idx → F .f32) 0 z, ← flat_pos r z]
  rfl

/-! ## Over the extended reals -/

theorem blend0 (x y : EReal) : x + (((0#32 : BitVec 32).toInt : ℝ) : EReal) * (y - x) = x := by
  have : (((0#32 : BitVec 32).toInt : ℝ) : EReal) = 0 := by norm_num
  rw [this, zero_mul, add_zero]

theorem blend1 (x y : EReal) (hb : x ≠ ⊥) (ht : x ≠ ⊤) : x + (((1#32 : BitVec 32).toInt : ℝ) : EReal) * (y - x) = y := by
  have : (((1#32 : BitVec 32).toInt : ℝ) : EReal) = 1 := by norm_num
  rw [this, one_mul]
  induction x using EReal.rec with
  | bot => exact absurd rfl hb
  | top => exact absurd rfl ht
  | coe a =>
    induction y using EReal.rec with
    | bot => rfl
    | top => rfl
    | coe c => rw [← EReal.coe_sub, ← EReal.coe_add]; congr 1; ring

/-- The kernel's blend of the two means by the component is the component's mean. -/
theorem blend (x y : Ideal .f32) (b : Fin 2) (hb : x ≠ (⊥ : EReal)) (ht : x ≠ (⊤ : EReal)) :
    (FloatOps.addf x (FloatOps.mulf (FloatOps.sitofp .f32 (BitVec.ofNat 32 b.val)) (FloatOps.subf y x)) : Ideal .f32) = if b = 0 then x else y := by
  match b with
  | 0 => exact blend0 x y
  | 1 => exact blend1 x y hb ht

open Cert.Proof.Ref in
/-- The two results agree. -/
theorem result_eq (m : (ℓ : Loc nD τ sig) → Buf (Elt Ideal) ℓ) (d : Dev nD)
    (h : Cert.Pre_drawn.fn (F := Ideal) (m (aLoc d)) (m (xLoc d)) (m (uLoc d)) (m (wLoc d)) = fun _ => 1#1) :
    result (m (aLoc d)) (m (xLoc d)) (m (uLoc d)) (m (wLoc d)) = outM m d := by
  obtain ⟨hC, hm, hl⟩ := drawn_read h
  refine funext fun y => ?_
  obtain ⟨r, z, rfl⟩ : ∃ (r : Fin 1048576) (z : Fin 64), y = ix2 r z := ⟨y 0, y 1, funext fun a => by match a with | 0 => rfl | 1 => rfl⟩
  obtain ⟨b, hb⟩ := hC (ix1 r)
  refine (result_apply _ _ _ _ hC r z b hb).trans ((outM_apply m d r z).trans ?_).symm
  rw [hb]
  have hlb : (m (wLoc d) : S2x64.Idx → Ideal .f32) (ix2 0 z) = (m (wLoc d) : S2x64.Idx → Ideal .f32) (ix2 b z) := by
    match b with
    | 0 => rfl
    | 1 => exact hl z
  have hmb := blend ((m (uLoc d) : S2x64.Idx → Ideal .f32) (ix2 0 z)) ((m (uLoc d) : S2x64.Idx → Ideal .f32) (ix2 1 z)) b (hm z).1 (hm z).2
  have hrow : (if b = 0 then (m (uLoc d) : S2x64.Idx → Ideal .f32) (ix2 0 z) else (m (uLoc d) : S2x64.Idx → Ideal .f32) (ix2 1 z))
      = (m (uLoc d) : S2x64.Idx → Ideal .f32) (ix2 b z) := by
    match b with
    | 0 => rfl
    | 1 => rfl
  rw [hmb, hrow, hlb]
  rfl

end Cert.Proof.Mix

end
-- ==== Proof.lean ====
/-
  The proof of `Cert.Claim`. The kernel's run is proved once, over any float values, with the value it leaves
  (Proof/Main.lean); the two frames of the kernel are that run with the value dropped, and the algebraic claim is its
  instance over the extended reals beside the reference's run, the two values equal by Proof/Value.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_drawn
public import proofs.«01_k».proof.Proof.Value
public import Idealize.ShloMosaic.Adequacy
public import Idealize.ShloMosaic.Init

@[expose] public section

noncomputable section

namespace Cert.Proof

open Idealize.ShloMosaic Idealize.SL.Sem

/-- The kernel as printed: its text is the idealized kernel's, so the run over the machine's floats is the one run. -/
theorem frame_kernel : Cert.quiescent_Kernel := fun m ρ _ =>
  (θ_run Cert.KernelIdeal.defs _ _).mono
    (fun _ h => ⟨fun c => ⟨(h.1 c).1, (h.1 c).2.1, (h.1 c).2.2.1, (h.1 c).2.2.2.1⟩, h.2⟩) (Mix.run_main (F := Bits) m ρ)

/-- The idealized kernel. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (Mix.run_main (F := Ideal) m ρ)

/-- The reference, which declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Both end with the kernel's value. -/
theorem algebraic : Cert.algebraic_KernelIdeal_ReferenceIdeal_pre_drawn := by
  intro m ρ m' ρ' hpre hagree
  refine ⟨fun c => Mix.outM m c, (θ_run Cert.KernelIdeal.defs _ _).mono
    (fun _ h c => ⟨(h.1 c).2.2.2.2, (h.1 c).1, (h.1 c).2.1, (h.1 c).2.2.1, (h.1 c).2.2.2.1⟩) (Mix.run_main (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Mix.result_eq m c (hpre c)

theorem claim : Cert.Claim :=
  ⟨Cert.Kernel.Gen.facts, Cert.KernelIdeal.Gen.facts, Cert.ReferenceIdeal.Gen.facts, Cert.Pre_drawn.Gen.facts,
    frame_kernel, frame_ideal, fun m ρ _ => frame_ideal m ρ trivial, frame_reference, fun m ρ _ => frame_reference m ρ trivial,
    trivial, algebraic⟩

end Cert.Proof

end
